-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tiles_in_range : Cert.Pre_tiles_in_range.Facts] (m : (ℓ : Loc Cert.Kernel2.nD Cert.Kernel2.τ Cert.Kernel2.sig) → Buf (Elt Bits) ℓ) : Prop :=
  ∀ c : Dev Cert.Kernel2.nD,
    (Cert.Pre_tiles_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tiles_in_range : Cert.Pre_tiles_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_range [hPre_tiles_in_range : Cert.Pre_tiles_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_down_tiles_in_range : Cert.Pre_down_tiles_in_range.Facts] (m : (ℓ : Loc Cert.Kernel3.nD Cert.Kernel3.τ Cert.Kernel3.sig) → Buf (Elt Bits) ℓ) : Prop :=
  ∀ c : Dev Cert.Kernel3.nD,
    (Cert.Pre_down_tiles_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_down_tiles_in_range : Cert.Pre_down_tiles_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_down_tiles_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_down_tiles_in_range [hPre_down_tiles_in_range : Cert.Pre_down_tiles_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_down_tiles_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tiles_in_range : Cert.Pre_tiles_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tiles_in_range [hReference2Ideal : Cert.Reference2Ideal.Facts] [hPre_tiles_in_range : Cert.Pre_tiles_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_down_tiles_in_range : Cert.Pre_down_tiles_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_down_tiles_in_range : Cert.Pre_down_tiles_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_down_tiles_in_range [hReference3Ideal : Cert.Reference3Ideal.Facts] [hPre_down_tiles_in_range : Cert.Pre_down_tiles_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_down_tiles_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_down_tiles_in_range : Cert.Pre_down_tiles_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v23)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v71) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v8_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v8_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_queries_and_keys : Cert.Pre_finite_queries_and_keys.Facts) (hPre_tiles_in_range : Cert.Pre_tiles_in_range.Facts) (hPre_down_tiles_in_range : Cert.Pre_down_tiles_in_range.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_tiles_in_range := hPre_tiles_in_range)
    ∧ quiescent_Kernel2Ideal (hKernel2Ideal := hKernel2Ideal) (hPre_tiles_in_range := hPre_tiles_in_range)
    ∧ quiescent_Reference2Ideal (hReference2Ideal := hReference2Ideal)
    ∧ quiescent_Reference2Ideal_pre_tiles_in_range (hReference2Ideal := hReference2Ideal) (hPre_tiles_in_range := hPre_tiles_in_range)
    ∧ quiescent_Kernel3 (hKernel3 := hKernel3) (hPre_down_tiles_in_range := hPre_down_tiles_in_range)
    ∧ quiescent_Kernel3Ideal (hKernel3Ideal := hKernel3Ideal) (hPre_down_tiles_in_range := hPre_down_tiles_in_range)
    ∧ quiescent_Reference3Ideal (hReference3Ideal := hReference3Ideal)
    ∧ quiescent_Reference3Ideal_pre_down_tiles_in_range (hReference3Ideal := hReference3Ideal) (hPre_down_tiles_in_range := hPre_down_tiles_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal) (hPre_tiles_in_range := hPre_tiles_in_range)
    ∧ preserves_Kernel3_Kernel3Ideal
    ∧ algebraic_Kernel3Ideal_Reference3Ideal (hKernel3Ideal := hKernel3Ideal) (hReference3Ideal := hReference3Ideal) (hPre_down_tiles_in_range := hPre_down_tiles_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_down_tiles_in_range.lean ====
abbrev S40960x1024 : Shape := ⟨2, ![40960, 1024]⟩
abbrev S16x1024x2048 : Shape := ⟨3, ![16, 1024, 2048]⟩
abbrev S80 : Shape := ⟨1, ![80]⟩
abbrev S1 : Shape := ⟨1, ![1]⟩
abbrev S_ : Shape := ⟨0, ![]⟩
abbrev S81 : Shape := ⟨1, ![81]⟩

class Facts : Prop where
  bcast_S_S80 : S_.BroadcastsInDim S80 (![] : Fin 0 → Fin S80.rank)
  bcast_S_S1 : S_.BroadcastsInDim S1 (![] : Fin 0 → Fin S1.rank)
  concatenates_S80_S1_S81_d0 : Shape.Concatenates [S80, S1] S81 0

variable [Facts]

def fn {F : FTy → Type} [FloatOps F] (main_arg0 : FVec F S40960x1024 .bf16) (main_arg1 : FVec F S16x1024x2048 .f32) (main_arg2 : IVec S80 32) (main_arg3 : IVec S1 32) : IVec S81 1 :=
  let main_c : IVec S_ 32 := constantI S_ 32 0#32
  let main_v0 : IVec S80 32 := broadcastInDim S80 ![] bcast_S_S80 main_c
  let main_v1 : IVec S80 1 := cmpi .sge main_arg2 main_v0
  let main_c_0 : IVec S_ 32 := constantI S_ 32 16#32
  let main_v2 : IVec S80 32 := broadcastInDim S80 ![] bcast_S_S80 main_c_0
  let main_v3 : IVec S80 1 := cmpi .slt main_arg2 main_v2
  let main_v4 : IVec S80 1 := andi main_v1 main_v3
  let main_c_1 : IVec S_ 32 := constantI S_ 32 1#32
  let main_v5 : IVec S1 32 := broadcastInDim S1 ![] bcast_S_S1 main_c_1
  let main_v6 : IVec S1 1 := cmpi .sge main_arg3 main_v5
  let main_c_2 : IVec S_ 32 := constantI S_ 32 80#32
  let main_v7 : IVec S1 32 := broadcastInDim S1 ![] bcast_S_S1 main_c_2
  let main_v8 : IVec S1 1 := cmpi .sle main_arg3 main_v7
  let main_v9 : IVec S1 1 := andi main_v6 main_v8
  let main_v10 : IVec S81 1 := (fun a b => concatenate S81 0 [⟨S80, a⟩, ⟨S1, b⟩] concatenates_S80_S1_S81_d0) main_v4 main_v9
  main_v10
-- ==== Pre_finite_queries_and_keys.lean ====
abbrev S8x2048x6144 : Shape := ⟨3, ![8, 2048, 6144]⟩
abbrev S4x128 : Shape := ⟨2, ![4, 128]⟩
abbrev S256 : Shape := ⟨1, ![256]⟩
abbrev S8x2048x4096 : Shape := ⟨3, ![8, 2048, 4096]⟩
abbrev S_ : Shape := ⟨0, ![]⟩

class Facts : Prop where
  slices_S8x2048x6144_S8x2048x4096_0_0_0 : S8x2048x6144.Slices ![0, 0, 0] S8x2048x4096
  bitsLt_bf16_f32 : FTy.bits .bf16 < FTy.bits .f32
  bcast_S_S8x2048x4096 : S_.BroadcastsInDim S8x2048x4096 (![] : Fin 0 → Fin S8x2048x4096.rank)

variable [Facts]

def fn {F : FTy → Type} [FloatOps F] (main_arg0 : FVec F S8x2048x6144 .bf16) (main_arg1 : FVec F S4x128 .f32) (main_arg2 : FVec F S256 .f32) : IVec S8x2048x4096 1 :=
  let main_v0 : FVec F S8x2048x4096 .bf16 := (extractStridedSlice S8x2048x4096 ![0, 0, 0] · slices_S8x2048x6144_S8x2048x4096_0_0_0) main_arg0
  let main_v1 : FVec F S8x2048x4096 .f32 := (extf .f32 · bitsLt_bf16_f32) main_v0
  let main_v2 : FVec F S8x2048x4096 .f32 := Host.absf main_v1
  let main_cst : FVec F S_ .f32 := constant S_ .f32 0x7F800000#32
  let main_v3 : FVec F S8x2048x4096 .f32 := broadcastInDim S8x2048x4096 ![] bcast_S_S8x2048x4096 main_cst
  let main_v4 : IVec S8x2048x4096 1 := cmpf .olt main_v2 main_v3
  main_v4
-- ==== Pre_tiles_in_range.lean ====
abbrev S40960x2048 : Shape := ⟨2, ![40960, 2048]⟩
abbrev S16x2048x1024 : Shape := ⟨3, ![16, 2048, 1024]⟩
abbrev S80 : Shape := ⟨1, ![80]⟩
abbrev S1 : Shape := ⟨1, ![1]⟩
abbrev S_ : Shape := ⟨0, ![]⟩
abbrev S81 : Shape := ⟨1, ![81]⟩

class Facts : Prop where
  bcast_S_S80 : S_.BroadcastsInDim S80 (![] : Fin 0 → Fin S80.rank)
  bcast_S_S1 : S_.BroadcastsInDim S1 (![] : Fin 0 → Fin S1.rank)
  concatenates_S80_S1_S81_d0 : Shape.Concatenates [S80, S1] S81 0

variable [Facts]

def fn {F : FTy → Type} [FloatOps F] (main_arg0 : FVec F S40960x2048 .f32) (main_arg1 : FVec F S16x2048x1024 .f32) (main_arg2 : FVec F S16x2048x1024 .f32) (main_arg3 : IVec S80 32) (main_arg4 : IVec S1 32) : IVec S81 1 :=
  let main_c : IVec S_ 32 := constantI S_ 32 0#32
  let main_v0 : IVec S80 32 := broadcastInDim S80 ![] bcast_S_S80 main_c
  let main_v1 : IVec S80 1 := cmpi .sge main_arg3 main_v0
  let main_c_0 : IVec S_ 32 := constantI S_ 32 16#32
  let main_v2 : IVec S80 32 := broadcastInDim S80 ![] bcast_S_S80 main_c_0
  let main_v3 : IVec S80 1 := cmpi .slt main_arg3 main_v2
  let main_v4 : IVec S80 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  let main_c_2 : IVec S_ 32 := constantI S_ 32 80#32
  let main_v7 : IVec S1 32 := broadcastInDim S1 ![] bcast_S_S1 main_c_2
  let main_v8 : IVec S1 1 := cmpi .sle main_arg4 main_v7
  let main_v9 : IVec S1 1 := andi main_v6 main_v8
  let main_v10 : IVec S81 1 := (fun a b => concatenate S81 0 [⟨S80, a⟩, ⟨S1, b⟩] concatenates_S80_S1_S81_d0) main_v4 main_v9
  main_v10
-- ==== Kernel.lean ====
abbrev S8x2048x6144 : Shape := ⟨3, ![8, 2048, 6144]⟩
abbrev S4x128 : Shape := ⟨2, ![4, 128]⟩
abbrev S256 : Shape := ⟨1, ![256]⟩
abbrev S1x256 : Shape := ⟨2, ![1, 256]⟩
abbrev S8x2048x2048 : Shape := ⟨3, ![8, 2048, 2048]⟩
abbrev S1x1024x256 : Shape := ⟨3, ![1, 1024, 256]⟩
abbrev S1x2048x256 : Shape := ⟨3, ![1, 2048, 256]⟩
abbrev S1x128 : Shape := ⟨2, ![1, 128]⟩
abbrev S1 : Shape := ⟨1, ![1]⟩
abbrev S1x1 : Shape := ⟨2, ![1, 1]⟩
abbrev S2048x256 : Shape := ⟨2, ![2048, 256]⟩
abbrev S1x256x128 : Shape := ⟨3, ![1, 256, 128]⟩
abbrev S256x128 : Shape := ⟨2, ![256, 128]⟩
abbrev S1x2048x128 : Shape := ⟨3, ![1, 2048, 128]⟩
abbrev S2048x128 : Shape := ⟨2, ![2048, 128]⟩
abbrev S256x2048 : Shape := ⟨2, ![256, 2048]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x6144, .bf16⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S8x2048x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S4x128, .f32⟩
  | .local _ .vmem, ⟨7, _⟩ => ⟨S1x256, .f32⟩
  | .local _ .vmem, ⟨8, _⟩ => ⟨S1x1024x256, .bf16⟩
  | .local _ .vmem, ⟨9, _⟩ => ⟨S1x1024x256, .bf16⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S8x2048x6144 : Shape := ⟨3, ![8, 2048, 6144]⟩
abbrev S4x128 : Shape := ⟨2, ![4, 128]⟩
abbrev S256 : Shape := ⟨1, ![256]⟩
abbrev S8x2048x2048 : Shape := ⟨3, ![8, 2048, 2048]⟩
abbrev S8x2048x8x2x128 : Shape := ⟨5, ![8, 2048, 8, 2, 128]⟩
abbrev S8x2048x8x256 : Shape := ⟨4, ![8, 2048, 8, 256]⟩
abbrev S1x128 : Shape := ⟨2, ![1, 128]⟩
abbrev S128 : Shape := ⟨1, ![128]⟩
abbrev S_ : Shape := ⟨0, ![]⟩
abbrev S8x8x2x2048x2048 : Shape := ⟨5, ![8, 8, 2, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x256x2048 : Shape := ⟨4, ![8, 8, 256, 2048]⟩
abbrev S8x2048x8 : Shape := ⟨3, ![8, 2048, 8]⟩
abbrev S8x2048x8x1 : Shape := ⟨4, ![8, 2048, 8, 1]⟩
abbrev S1x1x1x256 : Shape := ⟨4, ![1, 1, 1, 256]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x6144, .bf16⟩
  | .hbm, ⟨1, _⟩ => ⟨S4x128, .f32⟩
  | .hbm, ⟨2, _⟩ => ⟨S256, .f32⟩
  | .hbm, ⟨3, _⟩ => ⟨S8x2048x6144, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S8x2048x8x2x128, .f32⟩
  | .hbm, ⟨8, _⟩ => ⟨S8x2048x8x2x128, .f32⟩
  | .hbm, ⟨9, _⟩ => ⟨S8x2048x8x256, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x8x2x2048x2048, .f32⟩
  | .hbm, ⟨30, _⟩ => ⟨S_, .f32⟩
  | .hbm, ⟨31, _⟩ => ⟨S_, .f32⟩
  | .hbm, ⟨32, _⟩ => ⟨S8x8x2x2048x2048, .f32⟩
  | .hbm, ⟨33, _⟩ => ⟨S8x8x2x2048x2048, .f32⟩
  | .hbm, ⟨34, _⟩ => ⟨S_, .f32⟩
  | .hbm, ⟨35, _⟩ => ⟨S8x8x2x2048, .f32⟩
  | .hbm, ⟨36, _⟩ => ⟨S_, .f32⟩
  | .hbm, ⟨37, _⟩ => ⟨S8x8x2x2048, .f32⟩
  | .hbm, ⟨38, _⟩ => ⟨S8x8x2x2048, .f32⟩
  | .hbm, ⟨39, _⟩ => ⟨S8x8x2x2048x1, .f32⟩
  | .hbm, ⟨40, _⟩ => ⟨S8x8x2x2048x2048, .f32⟩
  | .hbm, ⟨41, _⟩ => ⟨S8x8x2x2048x2048, .f32⟩
  | .hbm, ⟨42, _⟩ => ⟨S8x8x2x2048x2048, .f32⟩
  | .hbm, ⟨43, _⟩ => ⟨S_, .f32⟩
  | .hbm, ⟨44, _⟩ => ⟨S8x8x2x2048, .f32⟩
  | .hbm, ⟨45, _⟩ => ⟨S8x8x2x2048x1, .f32⟩
  | .hbm, ⟨46, _⟩ => ⟨S8x8x2x2048x2048, .f32⟩
  | .hbm, ⟨47, _⟩ => ⟨S8x8x2x2048x2048, .f32⟩
  | .hbm, ⟨48, _⟩ => ⟨S8x8x1x2048x2048, .f32⟩
  | .hbm, ⟨49, _⟩ => ⟨S8x8x2048x2048, .f32⟩
  | .hbm, ⟨50, _⟩ => ⟨S8x8x1x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x256x2048, .f32⟩
  | .hbm, ⟨56, _⟩ => ⟨S8x2048x8x256, .f32⟩
  | .hbm, ⟨57, _⟩ => ⟨S8x2048x8x256, .f32⟩
  | .hbm, ⟨58, _⟩ => ⟨S_, .f32⟩
  | .hbm, ⟨59, _⟩ => ⟨S8x2048x8, .f32⟩
  | .hbm, ⟨60, _⟩ => ⟨S8x2048x8x1, .f32⟩
  | .hbm, ⟨61, _⟩ => ⟨S_, .f32⟩
  | .hbm, ⟨62, _⟩ => ⟨S8x2048x8x1, .f32⟩
  | .hbm, ⟨63, _⟩ => ⟨S8x2048x8x1, .f32⟩
  | .hbm, ⟨64, _⟩ => ⟨S_, .f32⟩
  | .hbm, ⟨65, _⟩ => ⟨S8x2048x8x1, .f32⟩
  | .hbm, ⟨66, _⟩ => ⟨S8x2048x8x1, .f32⟩
  | .hbm, ⟨67, _⟩ => ⟨S8x2048x8x1, .f32⟩
  | .hbm, ⟨68, _⟩ => ⟨S8x2048x8x256, .f32⟩
  | .hbm, ⟨69, _⟩ => ⟨S8x2048x8x256, .f32⟩
  | .hbm, ⟨70, _⟩ => ⟨S1x1x1x256, .f32⟩
  | .hbm, ⟨71, _⟩ => ⟨S8x2048x8x256, .f32⟩
  | .hbm, ⟨72, _⟩ => ⟨S8x2048x8x256, .f32⟩
  | .hbm, ⟨73, _⟩ => ⟨S_, .f32⟩
  | .hbm, ⟨74, _⟩ => ⟨S8x2048x8x256, .f32⟩
  | .hbm, ⟨75, _⟩ => ⟨S8x2048x8x256, .f32⟩
  | .hbm, ⟨76, _⟩ => ⟨S8x2048x2048, .f32⟩
  | .hbm, ⟨77, _⟩ => ⟨S8x2048x2048, .bf16⟩
  | _, _ => ⟨S8x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel2.lean ====
abbrev S40960x2048 : Shape := ⟨2, ![40960, 2048]⟩
abbrev S16x2048x1024 : Shape := ⟨3, ![16, 2048, 1024]⟩
abbrev S80 : Shape := ⟨1, ![80]⟩
abbrev S1 : Shape := ⟨1, ![1]⟩
abbrev S40960x1024 : Shape := ⟨2, ![40960, 1024]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S40960x2048, .f32⟩
  | .hbm, ⟨1, _⟩ => ⟨S16x2048x1024, .f32⟩
  | .hbm, ⟨2, _⟩ => ⟨S16x2048x1024, .f32⟩
  | .hbm, ⟨3, _⟩ => ⟨S40960x1024, .bf16⟩
  | .local _ .vmem, ⟨0, _⟩ => ⟨S512x2048, .f32⟩
  | .local _ .vmem, ⟨1, _⟩ => ⟨S512x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S80, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 80], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S40960x2048 : Shape := ⟨2, ![40960, 2048]⟩
abbrev S16x2048x1024 : Shape := ⟨3, ![16, 2048, 1024]⟩
abbrev S80 : Shape := ⟨1, ![80]⟩
abbrev S1 : Shape := ⟨1, ![1]⟩
abbrev S80x1 : Shape := ⟨2, ![80, 1]⟩
abbrev S80x512 : Shape := ⟨2, ![80, 512]⟩
abbrev S40960 : Shape := ⟨1, ![40960]⟩
abbrev S_ : Shape := ⟨0, ![]⟩
abbrev S40960x1 : Shape := ⟨2, ![40960, 1]⟩
abbrev S16 : Shape := ⟨1, ![16]⟩
abbrev S1x16 : Shape := ⟨2, ![1, 16]⟩
abbrev S40960x16 : Shape := ⟨2, ![40960, 16]⟩
abbrev S40960x16x1024 : Shape := ⟨3, ![40960, 16, 1024]⟩
abbrev S40960x16x1 : Shape := ⟨3, ![40960, 16, 1]⟩
abbrev S40960x1024 : Shape := ⟨2, ![40960, 1024]⟩

abbrev nBuf : Space → Nat
  | .hbm => 42
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S16x2048x1024, .f32⟩
  | .hbm, ⟨2, _⟩ => ⟨S16x2048x1024, .f32⟩
  | .hbm, ⟨3, _⟩ => ⟨S80, .i32⟩
  | .hbm, ⟨4, _⟩ => ⟨S1, .i32⟩
  | .hbm, ⟨5, _⟩ => ⟨S80x1, .i32⟩
  | .hbm, ⟨6, _⟩ => ⟨S80x512, .i32⟩
  | .hbm, ⟨7, _⟩ => ⟨S40960, .i32⟩
  | .hbm, ⟨8, _⟩ => ⟨S40960, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S40960, .i32⟩
  | .hbm, ⟨13, _⟩ => ⟨S40960, .i1⟩
  | .hbm, ⟨14, _⟩ => ⟨S40960x1, .i32⟩
  | .hbm, ⟨15, _⟩ => ⟨S16, .i32⟩
  | .hbm, ⟨16, _⟩ => ⟨S1x16, .i32⟩
  | .hbm, ⟨17, _⟩ => ⟨S40960x16, .i32⟩
  | .hbm, ⟨18, _⟩ => ⟨S40960x16, .i32⟩
  | .hbm, ⟨19, _⟩ => ⟨S40960x16, .i1⟩
  | .hbm, ⟨20, _⟩ => ⟨S40960x1, .i1⟩
  | .hbm, ⟨21, _⟩ => ⟨S40960x16, .i1⟩
  | .hbm, ⟨22, _⟩ => ⟨S40960x16, .i1⟩
  | .hbm, ⟨23, _⟩ => ⟨S40960x16, .f32⟩
  | .hbm, ⟨24, _⟩ => ⟨S40960x16x1024, .f32⟩
  | .hbm, ⟨25, _⟩ => ⟨S40960x16x1024, .f32⟩
  | .hbm, ⟨26, _⟩ => ⟨S40960x16x1024, .f32⟩
  | .hbm, ⟨27, _⟩ => ⟨S40960x16x1024, .f32⟩
  | .hbm, ⟨28, _⟩ => ⟨S_, .f32⟩
  | .hbm, ⟨29, _⟩ => ⟨S40960x16x1024, .f32⟩
  | .hbm, ⟨30, _⟩ => ⟨S40960x16x1024, .f32⟩
  | .hbm, ⟨31, _⟩ => ⟨S_, .f32⟩
  | .hbm, ⟨32, _⟩ => ⟨S40960x16x1024, .f32⟩
  | .hbm, ⟨33, _⟩ => ⟨S40960x16x1024, .f32⟩
  | .hbm, ⟨34, _⟩ => ⟨S40960x16x1024, .f32⟩
  | .hbm, ⟨35, _⟩ => ⟨S40960x16x1024, .f32⟩
  | .hbm, ⟨36, _⟩ => ⟨S40960x16x1, .f32⟩
  | .hbm, ⟨37, _⟩ => ⟨S40960x16x1024, .f32⟩
  | .hbm, ⟨38, _⟩ => ⟨S40960x16x1024, .f32⟩
  | .hbm, ⟨39, _⟩ => ⟨S_, .f32⟩
  | .hbm, ⟨40, _⟩ => ⟨S40960x1024, .f32⟩
  | .hbm, ⟨41, _⟩ => ⟨S40960x1024, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel3.lean ====
abbrev S40960x1024 : Shape := ⟨2, ![40960, 1024]⟩
abbrev S16x1024x2048 : Shape := ⟨3, ![16, 1024, 2048]⟩
abbrev S80 : Shape := ⟨1, ![80]⟩
abbrev S1 : Shape := ⟨1, ![1]⟩
abbrev S40960x2048 : Shape := ⟨2, ![40960, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 3
  | .vmem => 7
  | .smem => 2
  | _ => 0

abbrev bufTy : (tb : Table) → Fin (tcTables nBuf tb) → BufTy
  | .hbm, ⟨0, _⟩ => ⟨S40960x1024, .bf16⟩
  | .hbm, ⟨1, _⟩ => ⟨S16x1024x2048, .f32⟩
  | .hbm, ⟨2, _⟩ => ⟨S40960x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .smem, ⟨0, _⟩ => ⟨S80, .i32⟩
  | .local _ .smem, ⟨1, _⟩ => ⟨S1, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 80], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S80) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S40960x1024 : Shape := ⟨2, ![40960, 1024]⟩
abbrev S16x1024x2048 : Shape := ⟨3, ![16, 1024, 2048]⟩
abbrev S80 : Shape := ⟨1, ![80]⟩
abbrev S1 : Shape := ⟨1, ![1]⟩
abbrev S80x1 : Shape := ⟨2, ![80, 1]⟩
abbrev S80x512 : Shape := ⟨2, ![80, 512]⟩
abbrev S40960 : Shape := ⟨1, ![40960]⟩
abbrev S_ : Shape := ⟨0, ![]⟩
abbrev S40960x1 : Shape := ⟨2, ![40960, 1]⟩
abbrev S16 : Shape := ⟨1, ![16]⟩
abbrev S1x16 : Shape := ⟨2, ![1, 16]⟩
abbrev S40960x16 : Shape := ⟨2, ![40960, 16]⟩
abbrev S40960x1x1024 : Shape := ⟨3, ![40960, 1, 1024]⟩
abbrev S40960x16x1 : Shape := ⟨3, ![40960, 16, 1]⟩
abbrev S40960x16x1024 : Shape := ⟨3, ![40960, 16, 1024]⟩
abbrev S40960x2048 : Shape := ⟨2, ![40960, 2048]⟩

abbrev nBuf : Space → Nat
  | .hbm => 30
  | .vmem => 0
  | .smem => 0
  | _ => 0

abbrev bufTy : (tb : Table) → Fin (tcTables nBuf tb) → BufTy
  | .hbm, ⟨0, _⟩ => ⟨S40960x1024, .bf16⟩
  | .hbm, ⟨1, _⟩ => ⟨S16x1024x2048, .f32⟩
  | .hbm, ⟨2, _⟩ => ⟨S80, .i32⟩
  | .hbm, ⟨3, _⟩ => ⟨S1, .i32⟩
  | .hbm, ⟨4, _⟩ => ⟨S80x1, .i32⟩
  | .hbm, ⟨5, _⟩ => ⟨S80x512, .i32⟩
  | .hbm, ⟨6, _⟩ => ⟨S40960, .i32⟩
  | .hbm, ⟨7, _⟩ => ⟨S40960, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S40960, .i32⟩
  | .hbm, ⟨12, _⟩ => ⟨S40960, .i1⟩
  | .hbm, ⟨13, _⟩ => ⟨S40960x1, .i32⟩
  | .hbm, ⟨14, _⟩ => ⟨S16, .i32⟩
  | .hbm, ⟨15, _⟩ => ⟨S1x16, .i32⟩
  | .hbm, ⟨16, _⟩ => ⟨S40960x16, .i32⟩
  | .hbm, ⟨17, _⟩ => ⟨S40960x16, .i32⟩
  | .hbm, ⟨18, _⟩ => ⟨S40960x16, .i1⟩
  | .hbm, ⟨19, _⟩ => ⟨S40960x1, .i1⟩
  | .hbm, ⟨20, _⟩ => ⟨S40960x16, .i1⟩
  | .hbm, ⟨21, _⟩ => ⟨S40960x16, .i1⟩
  | .hbm, ⟨22, _⟩ => ⟨S40960x16, .f32⟩
  | .hbm, ⟨23, _⟩ => ⟨S40960x1024, .f32⟩
  | .hbm, ⟨24, _⟩ => ⟨S40960x1x1024, .f32⟩
  | .hbm, ⟨25, _⟩ => ⟨S40960x16x1, .f32⟩
  | .hbm, ⟨26, _⟩ => ⟨S40960x16x1024, .f32⟩
  | .hbm, ⟨27, _⟩ => ⟨S40960x16x1024, .f32⟩
  | .hbm, ⟨28, _⟩ => ⟨S40960x16x1024, .f32⟩
  | .hbm, ⟨29, _⟩ => ⟨S40960x2048, .f32⟩
  | _, _ => ⟨S40960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel4.lean ====
abbrev S16384x2048 : Shape := ⟨2, ![16384, 2048]⟩
abbrev S2048x8192 : Shape := ⟨2, ![2048, 8192]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S2048x8192, .bf16⟩
  | .hbm, ⟨3, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x8192 : Shape := ⟨2, ![2048, 8192]⟩
abbrev S8x2048x2048 : Shape := ⟨3, ![8, 2048, 2048]⟩
abbrev S8x2048x8192 : Shape := ⟨3, ![8, 2048, 8192]⟩
abbrev S16384x8192 : Shape := ⟨2, ![16384, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S16384x2048, .f32⟩
  | .hbm, ⟨3, _⟩ => ⟨S8x2048x2048, .f32⟩
  | .hbm, ⟨4, _⟩ => ⟨S8x2048x8192, .f32⟩
  | .hbm, ⟨5, _⟩ => ⟨S8x2048x8192, .bf16⟩
  | .hbm, ⟨6, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S2048x2048 : Shape := ⟨2, ![2048, 2048]⟩
abbrev S16384x2048 : Shape := ⟨2, ![16384, 2048]⟩
abbrev S8x6x2048 : Shape := ⟨3, ![8, 6, 2048]⟩
abbrev S512x1024 : Shape := ⟨2, ![512, 1024]⟩
abbrev S512x2048 : Shape := ⟨2, ![512, 2048]⟩
abbrev S1x6x2048 : Shape := ⟨3, ![1, 6, 2048]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x6x2048, .f32⟩
  | .hbm, ⟨5, _⟩ => ⟨S2048x2048, .bf16⟩
  | .hbm, ⟨6, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x6x2048, .f32⟩
  | .local _ .vmem, ⟨8, _⟩ => ⟨S1x6x2048, .f32⟩
  | .local _ .vmem, ⟨9, _⟩ => ⟨S512x2048, .f32⟩
  | .local _ .vmem, ⟨10, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x1024 : Shape := ⟨2, ![16384, 1024]⟩
abbrev S2048x2048 : Shape := ⟨2, ![2048, 2048]⟩
abbrev S16384x2048 : Shape := ⟨2, ![16384, 2048]⟩
abbrev S8x6x2048 : Shape := ⟨3, ![8, 6, 2048]⟩
abbrev S8x2048x1024 : Shape := ⟨3, ![8, 2048, 1024]⟩
abbrev S8x2048x2048 : Shape := ⟨3, ![8, 2048, 2048]⟩
abbrev S8x12288 : Shape := ⟨2, ![8, 12288]⟩
abbrev S8x2048 : Shape := ⟨2, ![8, 2048]⟩
abbrev S8x1x2048 : Shape := ⟨3, ![8, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x6x2048, .f32⟩
  | .hbm, ⟨5, _⟩ => ⟨S16384x1024, .f32⟩
  | .hbm, ⟨6, _⟩ => ⟨S8x2048x1024, .f32⟩
  | .hbm, ⟨7, _⟩ => ⟨S16384x1024, .f32⟩
  | .hbm, ⟨8, _⟩ => ⟨S8x2048x1024, .f32⟩
  | .hbm, ⟨9, _⟩ => ⟨S8x2048x2048, .f32⟩
  | .hbm, ⟨10, _⟩ => ⟨S8x12288, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x2048x2048, .f32⟩
  | .hbm, ⟨18, _⟩ => ⟨S8x2048x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel6.lean ====
abbrev S16384x2048 : Shape := ⟨2, ![16384, 2048]⟩
abbrev S2048x2048 : Shape := ⟨2, ![2048, 2048]⟩
abbrev S8x6x2048 : Shape := ⟨3, ![8, 6, 2048]⟩
abbrev S512x2048 : Shape := ⟨2, ![512, 2048]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S8x6x2048, .f32⟩
  | .hbm, ⟨4, _⟩ => ⟨S2048x2048, .bf16⟩
  | .hbm, ⟨5, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S512x2048, .f32⟩
  | .local _ .vmem, ⟨8, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S16384x2048 : Shape := ⟨2, ![16384, 2048]⟩
abbrev S2048x2048 : Shape := ⟨2, ![2048, 2048]⟩
abbrev S8x6x2048 : Shape := ⟨3, ![8, 6, 2048]⟩
abbrev S8x2048x2048 : Shape := ⟨3, ![8, 2048, 2048]⟩
abbrev S8x12288 : Shape := ⟨2, ![8, 12288]⟩
abbrev S8x2048 : Shape := ⟨2, ![8, 2048]⟩
abbrev S8x1x2048 : Shape := ⟨3, ![8, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S8x6x2048, .f32⟩
  | .hbm, ⟨4, _⟩ => ⟨S16384x2048, .f32⟩
  | .hbm, ⟨5, _⟩ => ⟨S8x2048x2048, .f32⟩
  | .hbm, ⟨6, _⟩ => ⟨S8x2048x2048, .f32⟩
  | .hbm, ⟨7, _⟩ => ⟨S8x12288, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S8x6x2048 : Shape := ⟨3, ![8, 6, 2048]⟩
abbrev S1x2048 : Shape := ⟨2, ![1, 2048]⟩
abbrev S512x2048 : Shape := ⟨2, ![512, 2048]⟩
abbrev S1x6x2048 : Shape := ⟨3, ![1, 6, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x6x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S512x2048, .bf16⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16384x2048 : Shape := ⟨2, ![16384, 2048]⟩
abbrev S2048 : Shape := ⟨1, ![2048]⟩
abbrev S8x6x2048 : Shape := ⟨3, ![8, 6, 2048]⟩
abbrev S8x2048x2048 : Shape := ⟨3, ![8, 2048, 2048]⟩
abbrev S8x12288 : Shape := ⟨2, ![8, 12288]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x6x2048, .f32⟩
  | .hbm, ⟨3, _⟩ => ⟨S8x2048x2048, .f32⟩
  | .hbm, ⟨4, _⟩ => ⟨S8x12288, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S8x1x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x1x2048, .f32⟩
  | .hbm, ⟨34, _⟩ => ⟨S8x2048x2048, .f32⟩
  | .hbm, ⟨35, _⟩ => ⟨S8x2048x2048, .f32⟩
  | .hbm, ⟨36, _⟩ => ⟨S8x2048x2048, .bf16⟩
  | .hbm, ⟨37, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel8.lean ====
abbrev S16384x2048 : Shape := ⟨2, ![16384, 2048]⟩
abbrev S2048x6144 : Shape := ⟨2, ![2048, 6144]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S16384x6144 : Shape := ⟨2, ![16384, 6144]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 31
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S2048x6144, .bf16⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2048, .f32⟩
  | .hbm, ⟨12, _⟩ => ⟨S2048x1, .f32⟩
  | .hbm, ⟨13, _⟩ => ⟨S1x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S_, .f32⟩
  | .hbm, ⟨20, _⟩ => ⟨S2048x96, .f32⟩
  | .hbm, ⟨21, _⟩ => ⟨S_, .f32⟩
  | .hbm, ⟨22, _⟩ => ⟨S2048x16, .f32⟩
  | .hbm, ⟨23, _⟩ => ⟨S_, .f32⟩
  | .hbm, ⟨24, _⟩ => ⟨S2048x96, .f32⟩
  | .hbm, ⟨25, _⟩ => ⟨S2048x96, .f32⟩
  | .hbm, ⟨26, _⟩ => ⟨S2048x128, .f32⟩
  | .hbm, ⟨27, _⟩ => ⟨S2048x16, .f32⟩
  | .hbm, ⟨28, _⟩ => ⟨S2048x128, .f32⟩
  | .hbm, ⟨29, _⟩ => ⟨S2048x128, .f32⟩
  | .hbm, ⟨30, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S16384x2048 : Shape := ⟨2, ![16384, 2048]⟩
abbrev S2048x6144 : Shape := ⟨2, ![2048, 6144]⟩
abbrev S8x2048x2048 : Shape := ⟨3, ![8, 2048, 2048]⟩
abbrev S8x2048x6144 : Shape := ⟨3, ![8, 2048, 6144]⟩
abbrev S2048 : Shape := ⟨1, ![2048]⟩
abbrev S8x2048x16x128 : Shape := ⟨4, ![8, 2048, 16, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x16x16 : Shape := ⟨4, ![8, 2048, 16, 16]⟩
abbrev S8x2048x16x96 : Shape := ⟨4, ![8, 2048, 16, 96]⟩
abbrev S16384x6144 : Shape := ⟨2, ![16384, 6144]⟩

abbrev nBuf : Space → Nat
  | .hbm => 78
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S8x2048x2048, .f32⟩
  | .hbm, ⟨4, _⟩ => ⟨S8x2048x6144, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S2048, .f32⟩
  | .hbm, ⟨9, _⟩ => ⟨S8x2048x16x128, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S1x2048x1x16, .f32⟩
  | .hbm, ⟨25, _⟩ => ⟨S2048x16, .f32⟩
  | .hbm, ⟨26, _⟩ => ⟨S1x2048x1x16, .f32⟩
  | .hbm, ⟨27, _⟩ => ⟨S8x2048x16x16, .f32⟩
  | .hbm, ⟨28, _⟩ => ⟨S8x2048x16x16, .f32⟩
  | .hbm, ⟨29, _⟩ => ⟨S8x2048x16x16, .f32⟩
  | .hbm, ⟨30, _⟩ => ⟨S8x2048x16x16, .f32⟩
  | .hbm, ⟨31, _⟩ => ⟨S8x2048x16x16, .f32⟩
  | .hbm, ⟨32, _⟩ => ⟨S8x2048x16x16, .f32⟩
  | .hbm, ⟨33, _⟩ => ⟨S8x2048x16x16, .f32⟩
  | .hbm, ⟨34, _⟩ => ⟨S8x2048x16x16, .f32⟩
  | .hbm, ⟨35, _⟩ => ⟨S8x2048x16x16, .f32⟩
  | .hbm, ⟨36, _⟩ => ⟨S8x2048x16x16, .f32⟩
  | .hbm, ⟨37, _⟩ => ⟨S8x2048x16x16, .f32⟩
  | .hbm, ⟨38, _⟩ => ⟨S8x2048x16x16, .f32⟩
  | .hbm, ⟨39, _⟩ => ⟨S8x2048x16x96, .f32⟩
  | .hbm, ⟨40, _⟩ => ⟨S8x2048x16x128, .f32⟩
  | .hbm, ⟨41, _⟩ => ⟨S8x2048x2048, .f32⟩
  | .hbm, ⟨42, _⟩ => ⟨S8x2048x16x128, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S2048x1, .f32⟩
  | .hbm, ⟨52, _⟩ => ⟨S1x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S1x2048x1x16, .f32⟩
  | .hbm, ⟨58, _⟩ => ⟨S2048x16, .f32⟩
  | .hbm, ⟨59, _⟩ => ⟨S1x2048x1x16, .f32⟩
  | .hbm, ⟨60, _⟩ => ⟨S8x2048x16x16, .f32⟩
  | .hbm, ⟨61, _⟩ => ⟨S8x2048x16x16, .f32⟩
  | .hbm, ⟨62, _⟩ => ⟨S8x2048x16x16, .f32⟩
  | .hbm, ⟨63, _⟩ => ⟨S8x2048x16x16, .f32⟩
  | .hbm, ⟨64, _⟩ => ⟨S8x2048x16x16, .f32⟩
  | .hbm, ⟨65, _⟩ => ⟨S8x2048x16x16, .f32⟩
  | .hbm, ⟨66, _⟩ => ⟨S8x2048x16x16, .f32⟩
  | .hbm, ⟨67, _⟩ => ⟨S8x2048x16x16, .f32⟩
  | .hbm, ⟨68, _⟩ => ⟨S8x2048x16x16, .f32⟩
  | .hbm, ⟨69, _⟩ => ⟨S8x2048x16x16, .f32⟩
  | .hbm, ⟨70, _⟩ => ⟨S8x2048x16x16, .f32⟩
  | .hbm, ⟨71, _⟩ => ⟨S8x2048x16x16, .f32⟩
  | .hbm, ⟨72, _⟩ => ⟨S8x2048x16x96, .f32⟩
  | .hbm, ⟨73, _⟩ => ⟨S8x2048x16x128, .f32⟩
  | .hbm, ⟨74, _⟩ => ⟨S8x2048x2048, .f32⟩
  | .hbm, ⟨75, _⟩ => ⟨S8x2048x6144, .f32⟩
  | .hbm, ⟨76, _⟩ => ⟨S8x2048x6144, .bf16⟩
  | .hbm, ⟨77, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_cst_1 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩

abbrev nD : Nat := 1
abbrev τ : Topo := Topo.v7x

variable {F : FTy → Type} [FloatOps F]
-- ==== Kernel9.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S16x2048 : Shape := ⟨2, ![16, 2048]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩
abbrev S8x12288 : Shape := ⟨2, ![8, 12288]⟩
abbrev S8x6x2048 : Shape := ⟨3, ![8, 6, 2048]⟩

abbrev nBuf : Space → Nat
  | .hbm => 10
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S_, .f32⟩
  | .hbm, ⟨4, _⟩ => ⟨S8x2048, .f32⟩
  | .hbm, ⟨5, _⟩ => ⟨S16x2048, .f32⟩
  | .hbm, ⟨6, _⟩ => ⟨S1x12288, .f32⟩
  | .hbm, ⟨7, _⟩ => ⟨S16x12288, .f32⟩
  | .hbm, ⟨8, _⟩ => ⟨S8x12288, .f32⟩
  | .hbm, ⟨9, _⟩ => ⟨S8x6x2048, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩
abbrev S8x6x2048 : Shape := ⟨3, ![8, 6, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | .hbm, ⟨16, _⟩ => ⟨S8x6x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel10.lean ====
abbrev S16384x2048 : Shape := ⟨2, ![16384, 2048]⟩
abbrev S2048 : Shape := ⟨1, ![2048]⟩
abbrev S8x6x2048 : Shape := ⟨3, ![8, 6, 2048]⟩
abbrev S2048x16 : Shape := ⟨2, ![2048, 16]⟩
abbrev S16 : Shape := ⟨1, ![16]⟩
abbrev S16x2048 : Shape := ⟨2, ![16, 2048]⟩
abbrev S32x2048 : Shape := ⟨2, ![32, 2048]⟩
abbrev S1x2048 : Shape := ⟨2, ![1, 2048]⟩
abbrev S16x1 : Shape := ⟨2, ![16, 1]⟩
abbrev S2x16384 : Shape := ⟨2, ![2, 16384]⟩
abbrev S16x128 : Shape := ⟨2, ![16, 128]⟩
abbrev S512x2048 : Shape := ⟨2, ![512, 2048]⟩
abbrev S1x6x2048 : Shape := ⟨3, ![1, 6, 2048]⟩
abbrev S2x512 : Shape := ⟨2, ![2, 512]⟩
abbrev S1x1x2048 : Shape := ⟨3, ![1, 1, 2048]⟩
abbrev S512 : Shape := ⟨1, ![512]⟩
abbrev S512x1 : Shape := ⟨2, ![512, 1]⟩
abbrev S32x512 : Shape := ⟨2, ![32, 512]⟩
abbrev S16x512 : Shape := ⟨2, ![16, 512]⟩
abbrev S1x512 : Shape := ⟨2, ![1, 512]⟩
abbrev S512x512 : Shape := ⟨2, ![512, 512]⟩

abbrev nBuf : Space → Nat
  | .hbm => 18
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x6x2048, .f32⟩
  | .hbm, ⟨3, _⟩ => ⟨S2048x16, .f32⟩
  | .hbm, ⟨4, _⟩ => ⟨S16, .f32⟩
  | .hbm, ⟨5, _⟩ => ⟨S16x2048, .f32⟩
  | .hbm, ⟨6, _⟩ => ⟨S16x2048, .bf16⟩
  | .hbm, ⟨7, _⟩ => ⟨S16x2048, .f32⟩
  | .hbm, ⟨8, _⟩ => ⟨S16x2048, .f32⟩
  | .hbm, ⟨9, _⟩ => ⟨S16x2048, .bf16⟩
  | .hbm, ⟨10, _⟩ => ⟨S32x2048, .bf16⟩
  | .hbm, ⟨11, _⟩ => ⟨S1x2048, .f32⟩
  | .hbm, ⟨12, _⟩ => ⟨S16x1, .f32⟩
  | .hbm, ⟨13, _⟩ => ⟨S16384x2048, .f32⟩
  | .hbm, ⟨14, _⟩ => ⟨S2x16384, .i32⟩
  | .hbm, ⟨15, _⟩ => ⟨S2x16384, .f32⟩
  | .hbm, ⟨16, _⟩ => ⟨S2x16384, .i32⟩
  | .hbm, ⟨17, _⟩ => ⟨S16x128, .i32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S32x2048, .bf16⟩
  | .local _ .vmem, ⟨6, _⟩ => ⟨S16x2048, .bf16⟩
  | .local _ .vmem, ⟨7, _⟩ => ⟨S16x1, .f32⟩
  | .local _ .vmem, ⟨8, _⟩ => ⟨S512x2048, .f32⟩
  | .local _ .vmem, ⟨9, _⟩ => ⟨S512x2048, .f32⟩
  | .local _ .vmem, ⟨10, _⟩ => ⟨S2x512, .i32⟩
  | .local _ .vmem, ⟨11, _⟩ => ⟨S2x512, .i32⟩
  | .local _ .vmem, ⟨12, _⟩ => ⟨S2x512, .f32⟩
  | .local _ .vmem, ⟨13, _⟩ => ⟨S2x512, .f32⟩
  | .local _ .vmem, ⟨14, _⟩ => ⟨S2x512, .i32⟩
  | .local _ .vmem, ⟨15, _⟩ => ⟨S2x512, .i32⟩
  | .local _ .vmem, ⟨16, _⟩ => ⟨S16x128, .i32⟩
  | .local _ .vmem, ⟨17, _⟩ => ⟨S16x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S16384x2048 : Shape := ⟨2, ![16384, 2048]⟩
abbrev S2048 : Shape := ⟨1, ![2048]⟩
abbrev S8x6x2048 : Shape := ⟨3, ![8, 6, 2048]⟩
abbrev S2048x16 : Shape := ⟨2, ![2048, 16]⟩
abbrev S16 : Shape := ⟨1, ![16]⟩
abbrev S8x2048x2048 : Shape := ⟨3, ![8, 2048, 2048]⟩
abbrev S8x12288 : Shape := ⟨2, ![8, 12288]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x6x2048, .f32⟩
  | .hbm, ⟨3, _⟩ => ⟨S2048x16, .f32⟩
  | .hbm, ⟨4, _⟩ => ⟨S16, .f32⟩
  | .hbm, ⟨5, _⟩ => ⟨S8x2048x2048, .f32⟩
  | .hbm, ⟨6, _⟩ => ⟨S8x12288, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x1x2048, .f32⟩
  | .hbm, ⟨36, _⟩ => ⟨S8x2048x2048, .f32⟩
  | .hbm, ⟨37, _⟩ => ⟨S8x2048x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.Softmax.lean ====
/- Hand-written. The arithmetic on the extended reals by which the attention kernel's softmax is the softmax of the
   problem. The kernel multiplies the raw scores by one constant, `c / log 2`, takes the greatest raw score out, and
   raises 2 to the difference; it multiplies by the reciprocal of the sum. The problem divides the scores by the root
   of the head size, takes their greatest value out, raises e to the difference and divides by the sum. On rows of
   finite scores the two agree, entry by entry. -/
module

public import Idealize.ShloMosaic.PureOps.Ideal
public import Idealize.ShloMosaic.Lib.IdealHost

@[expose] public section

noncomputable section

namespace Cert.Softmax

open Idealize.ShloMosaic

/-- The pattern the two programs start a maximum from denotes minus infinity. -/
theorem ofBits_neg_infinity : Ideal.ofBits .f32 0xFF800000#32 = (⊥ : EReal) := by
  simp [Ideal.ofBits, Ideal.ieee]

/-- The pattern of plus infinity. -/
theorem ofBits_infinity : Ideal.ofBits .f32 0x7F800000#32 = (⊤ : EReal) := by
  simp [Ideal.ofBits, Ideal.ieee]

/-- The head size, as the reference spells it. -/
theorem ofBits_128 : Ideal.ofBits .f32 0x43000000#32 = ((128 : ℝ) : EReal) := by
  simp [Ideal.ofBits, Ideal.ieee, -EReal.coe_mul]; norm_num

/-- The greatest of finitely many finite numbers, by the fold both programs take. -/
theorem fold_max_coe {n : ℕ} [NeZero n] (s : Fin n → ℝ) :
    Finset.univ.fold max (⊥ : EReal) (fun k => (s k : EReal))
      = ((Finset.univ.sup' Finset.univ_nonempty s : ℝ) : EReal) := by
  show Finset.univ.sup (fun k => (s k : EReal)) = _
  apply le_antisymm
  · exact Finset.sup_le fun k _ => EReal.coe_le_coe_iff.2 (Finset.le_sup' s (Finset.mem_univ k))
  · obtain ⟨k, hk, h⟩ := Finset.exists_mem_eq_sup' (Finset.univ_nonempty (α := Fin n)) s
    rw [h]
    exact Finset.le_sup (f := fun k => (s k : EReal)) hk

/-- Scaling by a positive number takes the greatest to the greatest. -/
theorem sup_mul {n : ℕ} [NeZero n] (s : Fin n → ℝ) {c : ℝ} (hc : 0 < c) :
    Finset.univ.sup' Finset.univ_nonempty (fun k => s k * c) = Finset.univ.sup' Finset.univ_nonempty s * c := by
  apply le_antisymm
  · exact Finset.sup'_le _ _ fun k _ => mul_le_mul_of_nonneg_right (Finset.le_sup' s (Finset.mem_univ k)) hc.le
  · obtain ⟨k, hk, h⟩ := Finset.exists_mem_eq_sup' (Finset.univ_nonempty (α := Fin n)) s
    rw [h]
    exact Finset.le_sup' (fun k => s k * c) hk

/-- A sum of real numbers, taken among the extended reals. -/
theorem coe_sum {n : ℕ} (f : Fin n → ℝ) : ((∑ k, f k : ℝ) : EReal) = ∑ k, (f k : EReal) :=
  map_sum (⟨⟨fun x : ℝ => (x : EReal), rfl⟩, EReal.coe_add⟩ : ℝ →+ EReal) f Finset.univ

/-- The kernel's exponential of a score: 2 to the power of the score less the greatest, both times the constant `c`. -/
def pow2 {n : ℕ} (c : EReal) (s : Fin n → EReal) (k : Fin n) : EReal :=
  Ideal.exp2 (s k * c - Finset.univ.fold max (⊥ : EReal) s * c)

/-- The problem's exponential of a score: e to the power of the score over `d` less the greatest of these. -/
def powE {n : ℕ} (d : EReal) (s : Fin n → EReal) (k : Fin n) : EReal :=
  Ideal.exp (Ideal.div (s k) d - max ⊥ (Finset.univ.fold max (⊥ : EReal) fun j => Ideal.div (s j) d))

/-- The kernel's constant, the reciprocal root of the head size over the logarithm of 2. -/
def scale2 : EReal := (((Real.sqrt 128)⁻¹ * (Real.log 2)⁻¹ : ℝ) : EReal)

/-- The root of the head size. -/
def root : EReal := Ideal.sqrt ((128 : ℝ) : EReal)

theorem root_eq : root = ((Real.sqrt 128 : ℝ) : EReal) := by
  rw [root, Ideal.sqrt_coe, if_neg (by norm_num)]

theorem sqrt_pos : 0 < Real.sqrt 128 := Real.sqrt_pos.2 (by norm_num)

variable {n : ℕ} [NeZero n]

/-- The problem's exponential over finite scores is a real exponential. -/
theorem powE_coe (s : Fin n → ℝ) (k : Fin n) :
    powE root (fun j => (s j : EReal)) k
      = ((Real.exp (s k * (Real.sqrt 128)⁻¹ - Finset.univ.sup' Finset.univ_nonempty s * (Real.sqrt 128)⁻¹) : ℝ) : EReal) := by
  have hd (x : ℝ) : Ideal.div (x : EReal) root = ((x * (Real.sqrt 128)⁻¹ : ℝ) : EReal) := by
    rw [root_eq, Ideal.div_coe sqrt_pos.ne', one_div, ← EReal.coe_mul]
  simp only [powE, hd]
  rw [fold_max_coe, sup_mul s (inv_pos.2 sqrt_pos), max_eq_right bot_le, ← EReal.coe_sub, Ideal.exp_coe]

/-- The kernel's exponential over finite scores is the same real exponential. -/
theorem pow2_coe (s : Fin n → ℝ) (k : Fin n) :
    pow2 scale2 (fun j => (s j : EReal)) k
      = ((Real.exp (s k * (Real.sqrt 128)⁻¹ - Finset.univ.sup' Finset.univ_nonempty s * (Real.sqrt 128)⁻¹) : ℝ) : EReal) := by
  have hl : Real.log 2 ≠ 0 := (Real.log_pos (by norm_num)).ne'
  rw [pow2, scale2, fold_max_coe, ← EReal.coe_mul, ← EReal.coe_mul, ← EReal.coe_sub, Ideal.exp2_coe]
  congr 1
  rw [Real.rpow_eq_pow, Real.rpow_def_of_pos (by norm_num : (0 : ℝ) < 2)]
  congr 1
  field_simp

/-- Over finite scores the two exponentials are one function. -/
theorem pow2_eq (s : Fin n → EReal) (hs : ∀ k, ∃ r : ℝ, s k = r) : pow2 scale2 s = powE root s := by
  choose r hr using hs
  obtain rfl : s = fun k => (r k : EReal) := funext hr
  funext k
  rw [pow2_coe, powE_coe]

/-- A row of finite scores has a nonzero sum of exponentials. -/
theorem sum_ne_zero (s : Fin n → EReal) (hs : ∀ k, ∃ r : ℝ, s k = r) : ∑ k, powE root s k ≠ 0 := by
  choose r hr using hs
  obtain rfl : s = fun k => (r k : EReal) := funext hr
  simp only [powE_coe]
  rw [← coe_sum]
  have : (0 : ℝ) < ∑ k, Real.exp (r k * (Real.sqrt 128)⁻¹ - Finset.univ.sup' Finset.univ_nonempty r * (Real.sqrt 128)⁻¹) :=
    Finset.sum_pos (fun k _ => Real.exp_pos _) Finset.univ_nonempty
  exact_mod_cast this.ne'

/-- One row's weights as the kernel forms them: the first map's probability less `l` times the second's, each
    exponential times a reciprocal sum. -/
def kernelWeight (c l : EReal) (s₁ s₂ : Fin n → EReal) (k : Fin n) : EReal :=
  pow2 c s₁ k * Ideal.div 1 (∑ j, pow2 c s₁ j) - pow2 c s₂ k * (l * Ideal.div 1 (∑ j, pow2 c s₂ j))

/-- One row's weights as the problem states them. -/
def weight (d l : EReal) (s₁ s₂ : Fin n → EReal) (k : Fin n) : EReal :=
  Ideal.div (powE d s₁ k) (∑ j, powE d s₁ j) - l * Ideal.div (powE d s₂ k) (∑ j, powE d s₂ j)

/-- Over finite scores the kernel's weights are the problem's. -/
theorem kernelWeight_eq (l : EReal) (s₁ s₂ : Fin n → EReal) (h₁ : ∀ k, ∃ r : ℝ, s₁ k = r) (h₂ : ∀ k, ∃ r : ℝ, s₂ k = r) :
    kernelWeight scale2 l s₁ s₂ = weight root l s₁ s₂ := by
  funext k
  rw [kernelWeight, weight, pow2_eq s₁ h₁, pow2_eq s₂ h₂, mul_left_comm, Ideal.mul_one_div (sum_ne_zero s₁ h₁),
    Ideal.mul_one_div (sum_ne_zero s₂ h₂)]

/-- A finite sum of products of finite numbers is finite. -/
theorem dot_finite {m : ℕ} (x y : Fin m → EReal) (hx : ∀ k, ∃ r : ℝ, x k = r) (hy : ∀ k, ∃ r : ℝ, y k = r) :
    ∃ r : ℝ, ∑ k, x k * y k = r := by
  choose a ha using hx
  choose b hb using hy
  exact ⟨∑ k, a k * b k, by simp only [ha, hb, ← EReal.coe_mul, coe_sum]⟩

end Cert.Softmax

end
-- ==== Proof.Row.lean ====
/- Hand-written. One row of the differential attention, as a function of its two rows of scores, the values and the
   normalization's gain; and the four pieces of 256 rows that the kernel stores at a grid point, each read at an index
   as that function. -/
module

public import proofs.«01_k».proof.Proof.Gen.KernelIdeal.Frame
public import proofs.«01_k».proof.Proof.Softmax
public import Idealize.ShloMosaic.Lib.Pointwise

@[expose] public section

set_option maxRecDepth 16384

noncomputable section

namespace Cert.DiffAttn

open Idealize.ShloMosaic

/-- The row's sum of values under weights `w`, normalized by its root mean square and scaled by the gain and by
    1 − λ₀, at one lane. -/
def normRow (w : Fin 2048 → EReal) (V : Fin 2048 → Fin 256 → EReal) (g : Fin 256 → EReal) (d : Fin 256) : EReal :=
  (∑ x, w x * V x d)
      * Ideal.rsqrt (Ideal.div (∑ e, (∑ x, w x * V x e) * (∑ x, w x * V x e)) (Ideal.ofBits .f32 0x43800000#32)
        + Ideal.ofBits .f32 0x358637BD#32)
    * g d * Ideal.ofBits .f32 0x3F24FD5C#32

/-- The weight λ of the second map, from the four rows of its parameters. -/
def lam (p : Fin 4 → Fin 128 → EReal) : EReal :=
  Ideal.exp (∑ c, p 0 c * p 1 c) - Ideal.exp (∑ c, p 2 c * p 3 c) + Ideal.ofBits .f32 0x3EB60549#32

end Cert.DiffAttn

namespace Cert.KernelIdeal.Value

open Cert.KernelIdeal Cert.KernelIdeal.Gen Idealize.ShloMosaic Idealize.ShloMosaic.TcCoe Idealize.SL.Sem
open Cert.Softmax Cert.DiffAttn

/-- The kernel's named constant denotes the reciprocal root of the head size over the logarithm of 2. -/
theorem named_scale : Named.named (F := Ideal) κ "scale_log2e" (φ := .f32) 0x3E0293EE#32 = scale2 :=
  IdealRules.named_const.ideal_named_scalar _ _ _ _ rfl

/-- The kernel's row: `normRow` under the kernel's weights, over what a grid point holds. -/
abbrev kernelRow (l : FVec Ideal S1x1 .f32) (V : FVec Ideal S2048x256 .bf16) (s₁ s₂ : FVec Ideal S256x2048 .f32)
    (g : FVec Ideal S1x256 .f32) (r d : Fin 256) : EReal :=
  normRow (kernelWeight scale2 (l (ix2 0 0)) (fun k => s₁ (ix2 r k)) (fun k => s₂ (ix2 r k))) (fun x e => V (ix2 x e))
    (fun e => g (ix2 0 e)) d

variable (l : FVec Ideal S1x1 .f32) (V : FVec Ideal S2048x256 .bf16) (s₁ s₂ : FVec Ideal S256x2048 .f32)
  (g : FVec Ideal S1x256 .f32) (r d : Fin 256)

theorem piece0 : k0_pay17 (k0_pay14 l V s₁ s₂) (k0_pay15 l V s₁ s₂) (k0_pay16 (F := Ideal)) g (ix3 0 r d)
    = kernelRow l V s₁ s₂ g r d := by
  pointwise [k0_pay17, k0_pay14, k0_pay15, k0_pay16, named_scale, ofBits_neg_infinity]
  rfl

theorem piece1 : k0_pay22 V (k0_pay18 s₂) (k0_pay19 s₂) (k0_pay20 s₁) (k0_pay21 l) g (ix3 0 r d)
    = kernelRow l V s₁ s₂ g r d := by
  pointwise [k0_pay22, k0_pay18, k0_pay19, k0_pay20, k0_pay21, named_scale, ofBits_neg_infinity]
  rfl

theorem piece2 : k0_pay27 l V (k0_pay23 s₁) (k0_pay24 s₁) (k0_pay25 s₂) (k0_pay26 s₂) g (ix3 0 r d)
    = kernelRow l V s₁ s₂ g r d := by
  pointwise [k0_pay27, k0_pay23, k0_pay24, k0_pay25, k0_pay26, named_scale, ofBits_neg_infinity]
  rfl

theorem piece3 : k0_pay1 (k0_pay30 l V s₂ (k0_pay28 s₁) (k0_pay29 s₁) (Named.named κ "scale_log2e" 0x3E0293EE#32) g)
    (k0_pay31 (F := Ideal)) (ix3 0 r d) = kernelRow l V s₁ s₂ g r d := by
  pointwise [k0_pay1, k0_pay30, k0_pay28, k0_pay29, k0_pay31, named_scale, ofBits_neg_infinity]
  rfl

end Cert.KernelIdeal.Value

end
-- ==== Proof.Reference.lean ====
/- Hand-written. The reference's result in stages — scores, softmax, mixed values, normalization —, each read at an
   index over variables, and the whole at an index as a `normRow`. -/
module

public import proofs.«01_k».proof.Proof.Gen.ReferenceIdeal.Run
public import proofs.«01_k».proof.Proof.Row

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Cert.Softmax Cert.DiffAttn

/-- The queries, one row of 128 per head and map. -/
def queries (proj : FVec Ideal S8x2048x6144 .bf16) : FVec Ideal S8x2048x8x2x128 .f32 :=
  shapeCast _ (extractStridedSlice S8x2048x2048 ![0, 0, 0] (extf .f32 proj bitsLt_bf16_f32)
    slices_S8x2048x6144_S8x2048x2048_0_0_0) shapeCasts_S8x2048x2048_S8x2048x8x2x128

/-- The keys, one row of 128 per head and map. -/
def keys (proj : FVec Ideal S8x2048x6144 .bf16) : FVec Ideal S8x2048x8x2x128 .f32 :=
  shapeCast _ (extractStridedSlice S8x2048x2048 ![0, 0, 2048] (extf .f32 proj bitsLt_bf16_f32)
    slices_S8x2048x6144_S8x2048x2048_0_0_2048) shapeCasts_S8x2048x2048_S8x2048x8x2x128

/-- The values, one row of 256 per head. -/
def values (proj : FVec Ideal S8x2048x6144 .bf16) : FVec Ideal S8x2048x8x256 .f32 :=
  shapeCast _ (extractStridedSlice S8x2048x2048 ![0, 0, 4096] (extf .f32 proj bitsLt_bf16_f32)
    slices_S8x2048x6144_S8x2048x2048_0_0_4096) shapeCasts_S8x2048x2048_S8x2048x8x256

/-- The products of queries and keys, before their division by the root of the head size. -/
def scores (q k : FVec Ideal S8x2048x8x2x128 .f32) : FVec Ideal S8x8x2x2048x2048 .f32 :=
  Host.dotGeneral dot_S8x2048x8x2x128_S8x2048x8x2x128_S8x8x2x2048x2048_4_4_1_1_023_023 none q k

/-- The scaled scores. -/
def scaled (s : FVec Ideal S8x8x2x2048x2048 .f32) : FVec Ideal S8x8x2x2048x2048 .f32 :=
  Host.divf s (broadcastInDim S8x8x2x2048x2048 ![] bcast_S_S8x8x2x2048x2048 (Host.sqrt (constant S_ .f32 0x43000000#32)))

/-- Each row's largest scaled score. -/
def rowMax (s : FVec Ideal S8x8x2x2048x2048 .f32) : FVec Ideal S8x8x2x2048 .f32 :=
  Host.reduce FloatOps.maximumf s (constant S_ .f32 0xFF800000#32) reducesTo_S8x8x2x2048x2048_S8x8x2x2048_d4 h_S_

/-- The exponentials of the scaled scores less their row's largest. -/
def powers (s : FVec Ideal S8x8x2x2048x2048 .f32) (t : FVec Ideal S8x8x2x2048 .f32) :
    FVec Ideal S8x8x2x2048x2048 .f32 :=
  Host.exp (subf s (broadcastInDim S8x8x2x2048x2048 ![0, 1, 2, 3, 4] bcast_S8x8x2x2048x1_S8x8x2x2048x2048_0_1_2_3_4
    (broadcastInDim S8x8x2x2048x1 ![0, 1, 2, 3] bcast_S8x8x2x2048_S8x8x2x2048x1_0_1_2_3
      (maximumf (broadcastInDim S8x8x2x2048 ![] bcast_S_S8x8x2x2048 (constant S_ .f32 0xFF800000#32)) t))))

/-- The exponentials, from the products. -/
def allPowers (s : FVec Ideal S8x8x2x2048x2048 .f32) : FVec Ideal S8x8x2x2048x2048 .f32 :=
  powers (scaled s) (rowMax (scaled s))

/-- The softmax over the keys, from the exponentials. -/
def probs (e : FVec Ideal S8x8x2x2048x2048 .f32) : FVec Ideal S8x8x2x2048x2048 .f32 :=
  Host.divf e (broadcastInDim S8x8x2x2048x2048 ![0, 1, 2, 3, 4] bcast_S8x8x2x2048x1_S8x8x2x2048x2048_0_1_2_3_4
    (broadcastInDim S8x8x2x2048x1 ![0, 1, 2, 3] bcast_S8x8x2x2048_S8x8x2x2048x1_0_1_2_3
      (Host.reduceAdd e (constant S_ .f32 0x00000000#32) reducesTo_S8x8x2x2048x2048_S8x8x2x2048_d4 h_S_)))

/-- The weight of the second map. -/
def lamBuf (dl : FVec Ideal S4x128 .f32) : FVec Ideal S_ .f32 :=
  addf (subf
    (Host.exp (Host.reduceAdd (mulf
      (shapeCast _ (extractStridedSlice S1x128 ![0, 0] dl slices_S4x128_S1x128_0_0) shapeCasts_S1x128_S128)
      (shapeCast _ (extractStridedSlice S1x128 ![1, 0] dl slices_S4x128_S1x128_1_0) shapeCasts_S1x128_S128))
      (constant S_ .f32 0x00000000#32) reducesTo_S128_S_d0 h_S_))
    (Host.exp (Host.reduceAdd (mulf
      (shapeCast _ (extractStridedSlice S1x128 ![2, 0] dl slices_S4x128_S1x128_2_0) shapeCasts_S1x128_S128)
      (shapeCast _ (extractStridedSlice S1x128 ![3, 0] dl slices_S4x128_S1x128_3_0) shapeCasts_S1x128_S128))
      (constant S_ .f32 0x00000000#32) reducesTo_S128_S_d0 h_S_)))
    (constant S_ .f32 0x3EB60549#32)

/-- The weights: the first map's less λ times the second's. -/
def weights (l : FVec Ideal S_ .f32) (p : FVec Ideal S8x8x2x2048x2048 .f32) : FVec Ideal S8x8x2048x2048 .f32 :=
  subf (shapeCast _ (extractStridedSlice S8x8x1x2048x2048 ![0, 0, 0, 0, 0] p slices_S8x8x2x2048x2048_S8x8x1x2048x2048_0_0_0_0_0)
      shapeCasts_S8x8x1x2048x2048_S8x8x2048x2048)
    (mulf (broadcastInDim S8x8x2048x2048 ![] bcast_S_S8x8x2048x2048 l)
      (shapeCast _ (extractStridedSlice S8x8x1x2048x2048 ![0, 0, 1, 0, 0] p slices_S8x8x2x2048x2048_S8x8x1x2048x2048_0_0_1_0_0)
        shapeCasts_S8x8x1x2048x2048_S8x8x2048x2048))

/-- The values summed under the weights. -/
def mixed (v : FVec Ideal S8x2048x8x256 .f32) (w : FVec Ideal S8x8x2048x2048 .f32) : FVec Ideal S8x2048x8x256 .f32 :=
  transpose S8x2048x8x256 [0, 3, 1, 2] (Host.dotGeneral dot_S8x2048x8x256_S8x8x2048x2048_S8x8x256x2048_1_3_3_2_02_01 none v w)
    transposes_S8x8x256x2048_S8x2048x8x256_0_3_1_2

/-- The root-mean-square normalization of each head's row, with its gain. -/
def normed (o : FVec Ideal S8x2048x8x256 .f32) (g : FVec Ideal S256 .f32) : FVec Ideal S8x2048x2048 .bf16 :=
  truncf .bf16 (shapeCast _ (mulf (mulf (mulf o
    (broadcastInDim S8x2048x8x256 ![0, 1, 2, 3] bcast_S8x2048x8x1_S8x2048x8x256_0_1_2_3 (Host.rsqrt (addf (Host.divf
      (broadcastInDim S8x2048x8x1 ![0, 1, 2] bcast_S8x2048x8_S8x2048x8x1_0_1_2 (Host.reduceAdd (mulf o o)
        (constant S_ .f32 0x00000000#32) reducesTo_S8x2048x8x256_S8x2048x8_d3 h_S_))
      (broadcastInDim S8x2048x8x1 ![] bcast_S_S8x2048x8x1 (constant S_ .f32 0x43800000#32)))
      (broadcastInDim S8x2048x8x1 ![] bcast_S_S8x2048x8x1 (constant S_ .f32 0x358637BD#32))))))
    (broadcastInDim S8x2048x8x256 ![0, 1, 2, 3] bcast_S1x1x1x256_S8x2048x8x256_0_1_2_3
      (broadcastInDim S1x1x1x256 ![3] bcast_S256_S1x1x1x256_3 g)))
    (broadcastInDim S8x2048x8x256 ![] bcast_S_S8x2048x8x256 (constant S_ .f32 0x3F24FD5C#32)))
    shapeCasts_S8x2048x8x256_S8x2048x2048) bitsLt_bf16_f32

/-- The reference's result is these stages, one after the other. -/
theorem res_stages (m : (ℓ : Loc nD τ sig) → Buf (Elt Ideal) ℓ) (c : Dev nD) :
    res_out0 m c = normed (mixed (values (m ((c.tc : Thread nD τ).loc main_arg0)))
      (weights (lamBuf (m ((c.tc : Thread nD τ).loc main_arg1)))
        (probs (allPowers (scores (queries (m ((c.tc : Thread nD τ).loc main_arg0)))
          (keys (m ((c.tc : Thread nD τ).loc main_arg0))))))))
      (m ((c.tc : Thread nD τ).loc main_arg2)) := rfl

variable (proj : FVec Ideal S8x2048x6144 .bf16) (dl : FVec Ideal S4x128 .f32) (gain : FVec Ideal S256 .f32)
  (q k : FVec Ideal S8x2048x8x2x128 .f32) (s : FVec Ideal S8x8x2x2048x2048 .f32) (l : FVec Ideal S_ .f32)
  (v o : FVec Ideal S8x2048x8x256 .f32) (w : FVec Ideal S8x8x2048x2048 .f32)
  (b h : Fin 8) (i : Fin 2) (n x : Fin 2048) (c : Fin 128) (e : Fin 256)

theorem queries_at : queries proj (ix5 b n h i c) = proj (ix3 b n ⟨(h.val * 2 + i.val) * 128 + c.val, by omega⟩) := by
  pointwise [queries]
  congr 3; omega

theorem keys_at : keys proj (ix5 b n h i c) = proj (ix3 b n ⟨2048 + ((h.val * 2 + i.val) * 128 + c.val), by omega⟩) := by
  pointwise [keys]
  congr 3; omega

theorem values_at : values proj (ix4 b n h e) = proj (ix3 b n ⟨4096 + (h.val * 256 + e.val), by omega⟩) := by
  pointwise [values]

theorem scores_at : scores q k (ix5 b h i n x) = ∑ c, q (ix5 b n h i c) * k (ix5 b x h i c) := by
  pointwise [scores]

theorem scaled_at : scaled s (ix5 b h i n x) = Ideal.div (s (ix5 b h i n x)) root := by
  pointwise [scaled]
  rw [ofBits_128]; rfl

/-- A host maximum over the last of five axes, read at an index: the fold over that axis, whatever the extents. -/
theorem reduceMax_last {n₀ n₁ n₂ n₃ n₄ : ℕ} (x : (⟨5, ![n₀, n₁, n₂, n₃, n₄]⟩ : Shape).Idx → EReal) (init : S_.Idx → EReal)
    (h' : (⟨5, ![n₀, n₁, n₂, n₃, n₄]⟩ : Shape).ReducesTo [4] ⟨4, ![n₀, n₁, n₂, n₃]⟩)
    (h : (⟨5, ![n₀, n₁, n₂, n₃, n₄]⟩ : Shape).Reduces [4] ⟨4, ![n₀, n₁, n₂, n₃]⟩) (hu : 0 < S_.numel)
    (a : Fin n₀) (b : Fin n₁) (c : Fin n₂) (e : Fin n₃) :
    Host.reduce max x init h' hu (ix4 a b c e)
      = (Finset.univ : Finset (Fin n₄)).fold max (init (Shape.Idx.first hu)) fun k => x (ix5 a b c e k) := by
  rw [Host.reduce_eq_fold_single max x init h' h hu]
  refine Finset.fold_congr fun k _ => ?_
  refine congrArg x (funext fun i => ?_)
  fin_cases i <;> rfl

theorem rowMax_at : rowMax s (ix4 b h i n) = Finset.univ.fold max ⊥ fun y => s (ix5 b h i n y) :=
  (reduceMax_last s _ reducesTo_S8x8x2x2048x2048_S8x8x2x2048_d4 (by decide) h_S_ b h i n).trans
    (congrArg (fun z => Finset.univ.fold max z _) ofBits_neg_infinity)

theorem powers_at (t : FVec Ideal S8x8x2x2048 .f32) : powers s t (ix5 b h i n x)
    = Ideal.exp (s (ix5 b h i n x) - max ⊥ (t (ix4 b h i n))) := by
  pointwise [powers, ofBits_neg_infinity]

theorem probs_at : probs s (ix5 b h i n x) = Ideal.div (s (ix5 b h i n x)) (∑ y, s (ix5 b h i n y)) := by
  pointwise [probs]

theorem lamBuf_at (z : S_.Idx) : lamBuf dl z = lam (fun a c => dl (ix2 a c)) := by
  pointwise [lamBuf]
  rfl

theorem weights_at : weights l s (ix4 b h n x) = s (ix5 b h 0 n x) - l ix0 * s (ix5 b h 1 n x) := by
  pointwise [weights]

theorem mixed_at : mixed v w (ix4 b n h e) = ∑ x, w (ix4 b h n x) * v (ix4 b x h e) := by
  pointwise [mixed]
  exact Finset.sum_congr rfl fun _ _ => mul_comm _ _

theorem normed_at (j : Fin 2048) (W : Fin 2048 → EReal) (V : Fin 2048 → Fin 256 → EReal)
    (ho : ∀ d, o (ix4 b n ⟨j.val / 256, by omega⟩ d) = ∑ x, W x * V x d) :
    normed o gain (ix3 b n j) = normRow W V (fun d => gain (ix1 d)) ⟨j.val % 256, Nat.mod_lt _ (by omega)⟩ := by
  pointwise [normed, ho]
  rfl

theorem allPowers_at : allPowers s (ix5 b h i n x) = powE root (fun y => s (ix5 b h i n y)) x := by
  simp only [allPowers, powers_at, rowMax_at, scaled_at]
  rfl

/-- The weight of key `x` for query `n`: the difference of the two maps' softmax probabilities. -/
theorem weights_all_at : weights l (probs (allPowers s)) (ix4 b h n x)
    = weight root (l ix0) (fun y => s (ix5 b h 0 n y)) (fun y => s (ix5 b h 1 n y)) x := by
  simp only [weights_at, probs_at, allPowers_at]
  rfl

/-- A query's product with a key, of map `i` of head `h`. -/
def product (proj : FVec Ideal S8x2048x6144 .bf16) (b h : Fin 8) (i : Fin 2) (n x : Fin 2048) : EReal :=
  ∑ c : Fin 128, proj (ix3 b n ⟨(h.val * 2 + i.val) * 128 + c.val, by omega⟩)
    * proj (ix3 b x ⟨2048 + ((h.val * 2 + i.val) * 128 + c.val), by omega⟩)

/-- The reference's result at an index. -/
theorem res_at (m : (ℓ : Loc nD τ sig) → Buf (Elt Ideal) ℓ) (c : Dev nD) (j : Fin 2048)
    (hp : m ((c.tc : Thread nD τ).loc main_arg0) = proj) (hl : m ((c.tc : Thread nD τ).loc main_arg1) = dl)
    (hg : m ((c.tc : Thread nD τ).loc main_arg2) = gain) (hh : h = ⟨j.val / 256, by omega⟩) :
    res_out0 m c (ix3 b n j) = normRow
      (weight root (lam fun a c => dl (ix2 a c)) (fun y => product proj b h 0 n y) (fun y => product proj b h 1 n y))
      (fun x e => proj (ix3 b x ⟨4096 + (h.val * 256 + e.val), by omega⟩)) (fun d => gain (ix1 d))
      ⟨j.val % 256, Nat.mod_lt _ (by omega)⟩ := by
  subst hh
  rw [res_stages, hp, hl, hg]
  refine normed_at _ _ _ _ _ _ _ fun d => ?_
  simp only [mixed_at, weights_all_at, lamBuf_at, scores_at, queries_at, keys_at, values_at]
  rfl

end Cert.ReferenceIdeal.Value

end
-- ==== Proof.Value.lean ====
/- Hand-written. The kernel's block at a grid point as a function of the blocks it reads, and its whole result as the
   reference's. -/
module

public import proofs.«01_k».proof.Proof.Row
public import proofs.«01_k».proof.Proof.Reference
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Cert.Softmax Cert.DiffAttn

section Scores

variable (q : Vec Ideal S1x256x128 .bf16) (k : Vec Ideal S1x2048x128 .bf16) (r : Fin 256) (y : Fin 2048)

/-- A query's product with a key. -/
abbrev dot : EReal := ∑ c, q (ix3 0 r c) * k (ix3 0 y c)

theorem pay4_at : k0_pay4 q k (ix2 r y) = dot q k r y := by pointwise [k0_pay4]
theorem pay5_at : k0_pay5 q k (ix2 r y) = dot q k r y := by pointwise [k0_pay5]
theorem pay7_at : k0_pay7 (k0_pay6 q) k (ix2 r y) = dot q k r y := by pointwise [k0_pay7, k0_pay6]
theorem pay8_at : k0_pay8 q k (ix2 r y) = dot q k r y := by pointwise [k0_pay8]
theorem pay9_at : k0_pay9 q k (ix2 r y) = dot q k r y := by pointwise [k0_pay9]
theorem pay10_at : k0_pay10 q k (ix2 r y) = dot q k r y := by pointwise [k0_pay10]
theorem pay11_at : k0_pay11 q k (ix2 r y) = dot q k r y := by pointwise [k0_pay11]
theorem pay13_at : k0_pay13 (k0_pay12 q) k (ix2 r y) = dot q k r y := by pointwise [k0_pay13, k0_pay12]

end Scores

theorem pay2_at (p : Vec Ideal S4x128 .f32) : k0_pay2 p (ix2 0 0) = lam fun a c => p (ix2 a c) := by
  pointwise [k0_pay2]
  rfl

theorem pay3_at (v : Vec Ideal S1x2048x256 .bf16) (x : Fin 2048) (e : Fin 256) :
    k0_pay3 v (ix2 x e) = v (ix3 0 x e) := by pointwise [k0_pay3]

variable (x0 : Vec Ideal S1x1024x256 .bf16) (x1 x2 : Vec Ideal S1x2048x256 .bf16) (x3 : Vec Ideal S4x128 .f32)
  (x4 : Vec Ideal S1x256 .f32)

/-- A query's product with a key in a block, over the 128 lanes from `o`. -/
def blockDot (o : ℕ) (ho : o + 128 ≤ 256) (p : Fin 1024) (y : Fin 2048) : EReal :=
  ∑ c : Fin 128, x0 (ix3 0 p ⟨o + c.val, by omega⟩) * x1 (ix3 0 y ⟨o + c.val, by omega⟩)

/-- Row `p`, lane `d` of what a grid point stores, from the blocks it reads. -/
def blockRow (p : Fin 1024) (d : Fin 256) : EReal :=
  normRow (kernelWeight scale2 (lam fun a c => x3 (ix2 a c)) (fun y => blockDot x0 x1 0 (by omega) p y)
      (fun y => blockDot x0 x1 128 (by omega) p y)) (fun x e => x2 (ix3 0 x e)) (fun e => x4 (ix2 0 e)) d

theorem ld_x3 : View.ld x3 r0_0 = x3 := View.ld_unit_zero (by decide) _ _
theorem ld_x2 : View.ld x2 r0_1 = x2 := View.ld_unit_zero (by decide) _ _
theorem ld_x4 : View.ld x4 r0_12 = x4 := View.ld_unit_zero (by decide) _ _

/-- A product of scores over the lanes from `o` of a block's rows from `a`. -/
theorem dot_ld (a o : ℕ) (ho : o + 128 ≤ 256) (ha : a + 256 ≤ 1024)
    (h0 : ∀ d, (![0, a, o] : Fin 3 → ℕ) d + S1x256x128.size d ≤ S1x1024x256.size d)
    (h1 : ∀ d, (![0, 0, o] : Fin 3 → ℕ) d + S1x2048x128.size d ≤ S1x2048x256.size d) (r : Fin 256) (y : Fin 2048)
    (p : Fin 1024) (hp : p.val = a + r.val) :
    dot (View.ld x0 (Rect.unit (s := S1x1024x256) ![0, a, o] S1x256x128.size h0))
      (View.ld x1 (Rect.unit (s := S1x2048x256) ![0, 0, o] S1x2048x128.size h1)) r y
      = blockDot x0 x1 o ho p y := by
  unfold blockDot
  refine Finset.sum_congr rfl fun c _ => ?_
  rw [View.ld_unit_apply_of x0 _ _ h0 _ (ix3 0 p ⟨o + c.val, by omega⟩) (by intro d; fin_cases d <;> first | rfl | exact hp),
    View.ld_unit_apply_of x1 _ _ h1 _ (ix3 0 y ⟨o + c.val, by omega⟩) (by intro d; fin_cases d <;> simp)]

/-- The kernel's row over what a grid point holds is the block's, when the scores are. -/
theorem row_eq (s₁ s₂ : FVec Ideal S256x2048 .f32) (r d : Fin 256) (p : Fin 1024)
    (h₁ : ∀ y, s₁ (ix2 r y) = blockDot x0 x1 0 (by omega) p y)
    (h₂ : ∀ y, s₂ (ix2 r y) = blockDot x0 x1 128 (by omega) p y) :
    kernelRow (k0_pay32 x0 x1 x2 x3 x4) (k0_pay33 x0 x1 x2 x3 x4) s₁ s₂ (View.ld x4 r0_12) r d
      = blockRow x0 x1 x2 x3 x4 p d := by
  rw [ld_x4]
  unfold kernelRow blockRow k0_pay32 k0_pay33
  simp only [h₁, h₂, ld_x2, ld_x3, pay2_at, pay3_at]

theorem out_at (y : S1x1024x256.Idx) : out0_5 x0 x1 x2 x3 x4 y = blockRow x0 x1 x2 x3 x4 (y 1) (y 2) := by
  unfold out0_5
  canon_tiles x h
  all_goals
    obtain ⟨z, r, d, rfl⟩ : ∃ z r d, x = ix3 z r d := ⟨x 0, x 1, x 2, by funext i; fin_cases i <;> rfl⟩
    obtain rfl : z = 0 := Subsingleton.elim _ _
    rw [show y 2 = d from Fin.ext h2]
  · rw [piece3]
    exact row_eq _ _ _ _ _ _ _ _ _ _
      (fun k => (pay11_at _ _ _ _).trans (dot_ld _ _ 768 0 (by omega) (by omega) _ _ _ _ _ h1))
      (fun k => (pay13_at _ _ _ _).trans (dot_ld _ _ 768 128 (by omega) (by omega) _ _ _ _ _ h1))
  · rw [piece2]
    exact row_eq _ _ _ _ _ _ _ _ _ _
      (fun k => (pay9_at _ _ _ _).trans (dot_ld _ _ 512 0 (by omega) (by omega) _ _ _ _ _ h1))
      (fun k => (pay10_at _ _ _ _).trans (dot_ld _ _ 512 128 (by omega) (by omega) _ _ _ _ _ h1))
  · rw [piece1]
    exact row_eq _ _ _ _ _ _ _ _ _ _
      (fun k => (pay7_at _ _ _ _).trans (dot_ld _ _ 256 0 (by omega) (by omega) _ _ _ _ _ h1))
      (fun k => (pay8_at _ _ _ _).trans (dot_ld _ _ 256 128 (by omega) (by omega) _ _ _ _ _ h1))
  · rw [piece0]
    exact row_eq _ _ _ _ _ _ _ _ _ _
      (fun k => (pay4_at _ _ _ _).trans (dot_ld _ _ 0 0 (by omega) (by omega) _ _ _ _ _ (h1.trans (Nat.zero_add _).symm)))
      (fun k => (pay5_at _ _ _ _).trans (dot_ld _ _ 0 128 (by omega) (by omega) _ _ _ _ _ (h1.trans (Nat.zero_add _).symm)))

variable (m : (ℓ : Loc nD τ sig) → Buf (Elt Ideal) ℓ)

/-- Every window's block index at a grid point. -/
theorem idx_val : ∀ t : Fin cfg0.N, win0_0.index t = ![t.val / 16, t.val % 2, t.val / 2 % 8]
    ∧ win0_1.index t = ![t.val / 16, 0, 8 + (t.val / 2 % 8)]
    ∧ win0_2.index t = ![t.val / 16, 0, 16 + (t.val / 2 % 8)]
    ∧ win0_3.index t = ![0, 0]
    ∧ win0_4.index t = ![0, 0]
    ∧ win0_5.index t = ![t.val / 16, t.val % 2, t.val / 2 % 8] :=
  (by decide +kernel : ∀ t : Fin grid0.N, _)

section Blocks

variable (c : Dev nD) (t : Fin cfg0.N)

theorem blk0_at (p : Fin 1024) (e : Fin 256) : iblk m c 0 t (ix3 0 p e) = m ((c : Thread nD τ).loc main_arg0)
    (ix3 ⟨t.val / 16, by have : t.val < 128 := t.isLt; omega⟩ ⟨t.val % 2 * 1024 + p.val, by omega⟩
      ⟨t.val / 2 % 8 * 256 + e.val, by omega⟩) := by
  blk_point [iblk, V, idx_val t]

theorem blk1_at (p : Fin 2048) (e : Fin 256) : iblk m c 1 t (ix3 0 p e) = m ((c : Thread nD τ).loc main_arg0)
    (ix3 ⟨t.val / 16, by have : t.val < 128 := t.isLt; omega⟩ p ⟨2048 + (t.val / 2 % 8 * 256 + e.val), by omega⟩) := by
  blk_point [iblk, V, idx_val t]

theorem blk2_at (p : Fin 2048) (e : Fin 256) : iblk m c 2 t (ix3 0 p e) = m ((c : Thread nD τ).loc main_arg0)
    (ix3 ⟨t.val / 16, by have : t.val < 128 := t.isLt; omega⟩ p ⟨4096 + (t.val / 2 % 8 * 256 + e.val), by omega⟩) := by
  blk_point [iblk, V, idx_val t]

theorem blk3_at (a : Fin 4) (e : Fin 128) : iblk m c 3 t (ix2 a e) = m ((c : Thread nD τ).loc main_arg1) (ix2 a e) := by
  blk_point [iblk, V, idx_val t]

theorem V_gain : V m c main_v0 = (shapeCast S1x256 (m ((c : Thread nD τ).loc main_arg2)) shapeCasts_S256_S1x256 :
    Vec Ideal S1x256 .f32) := by
  entry_read
  rfl

theorem blk4_at (e : Fin 256) : iblk m c 4 t (ix2 0 e) = m ((c : Thread nD τ).loc main_arg2) (ix1 e) := by
  have h : iblk m c 4 t (ix2 0 e) = V m c main_v0 (ix2 0 e) := by blk_point [iblk, idx_val t]
  rw [h, V_gain]
  pointwise

end Blocks

variable (m' : (ℓ : Loc Cert.ReferenceIdeal.nD Cert.ReferenceIdeal.τ Cert.ReferenceIdeal.sig) → Buf (Elt Ideal) ℓ)

/-- The queries and keys are real numbers: what the precondition says. -/
def RealQK (proj : FVec Ideal S8x2048x6144 .bf16) : Prop :=
  ∀ b n (j : Fin 6144), j.val < 4096 → ∃ r : ℝ, proj (ix3 b n j) = r

/-- A product of scores of the blocks is the reference's. -/
theorem blockDot_at (c : Dev nD) (t : Fin cfg0.N) (i : Fin 2) (o : ℕ) (ho : o + 128 ≤ 256) (hi : o = i.val * 128)
    (p : Fin 1024) (y : Fin 2048) :
    blockDot (iblk m c 0 t) (iblk m c 1 t) o ho p y
      = Cert.ReferenceIdeal.Value.product (m ((c : Thread nD τ).loc main_arg0))
        ⟨t.val / 16, by have : t.val < 128 := t.isLt; omega⟩ ⟨t.val / 2 % 8, by omega⟩ i
        ⟨t.val % 2 * 1024 + p.val, by omega⟩ y := by
  unfold blockDot Cert.ReferenceIdeal.Value.product
  refine Finset.sum_congr rfl fun e _ => ?_
  rw [blk0_at, blk1_at]
  congr 3 <;> refine Fin.ext ?_ <;> simp only <;> omega

/-- Products of real queries and keys are real. -/
theorem product_real (proj : FVec Ideal S8x2048x6144 .bf16) (h : RealQK proj) (b hd : Fin 8) (i : Fin 2) (n y : Fin 2048) :
    ∃ r : ℝ, Cert.ReferenceIdeal.Value.product proj b hd i n y = r :=
  dot_finite _ _ (fun e => h _ _ _ (by simp only; omega)) (fun e => h _ _ _ (by simp only; omega))

/-- One grid point's block is the reference's result there. -/
theorem point (c : Dev nD) (t : Fin cfg0.N) (y : S1x1024x256.Idx)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (hf : RealQK (m ((c : Thread nD τ).loc main_arg0))) :
    out0_5 (iblk m c 0 t) (iblk m c 1 t) (iblk m c 2 t) (iblk m c 3 t) (iblk m c 4 t) y
      = Cert.ReferenceIdeal.Value.res_out0 m' c (((cfg0.win 5).blk t).view.emb y) := by
  obtain ⟨z, p, d, rfl⟩ : ∃ z p d, y = ix3 z p d := ⟨y 0, y 1, y 2, by funext i; fin_cases i <;> rfl⟩
  obtain rfl : z = 0 := Subsingleton.elim _ _
  have ht : t.val < 128 := t.isLt
  have he : ((cfg0.win 5).blk t).view.emb (ix3 0 p d) = ix3 (⟨t.val / 16, by omega⟩ : Fin 8)
      (⟨t.val % 2 * 1024 + p.val, by omega⟩ : Fin 2048) (⟨t.val / 2 % 8 * 256 + d.val, by omega⟩ : Fin 2048) := by
    blk_ext [idx_val t]
  refine Eq.trans ?_ (congrArg (Cert.ReferenceIdeal.Value.res_out0 m' c) he).symm
  refine Eq.trans ?_ (Cert.ReferenceIdeal.Value.res_at _ _ _ _ ⟨t.val / 2 % 8, by omega⟩ _ m' c _ h0 h1 h2
    (Fin.ext (by simp only; omega))).symm
  rw [out_at]
  show blockRow _ _ _ _ _ p d = _
  unfold blockRow
  simp only [blockDot_at m c t 0 0 _ rfl, blockDot_at m c t 1 128 _ rfl, blk2_at, blk3_at, blk4_at]
  rw [kernelWeight_eq _ _ _ (fun y => product_real _ hf _ _ _ _ _) (fun y => product_real _ hf _ _ _ _ _)]
  congr 1
  exact Fin.ext (by simp only; omega)

theorem final (c : Dev nD)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (hf : RealQK (m ((c : Thread nD τ).loc main_arg0))) :
    (dats m 0 c).arrAt 5 cfg0.N = Cert.ReferenceIdeal.Value.res_out0 m' c := by
  refine (dats m 0 c).arrAt_eq_of_covers 5 _ (by decide +kernel) fun t _ y => ?_
  blk_simp
  rw [after0_5]
  exact point m m' c t y h0 h1 h2 hf

end Cert.KernelIdeal.Value

end
-- ==== Proof.Pre.lean ====
/- Hand-written. What the precondition says: the queries and the keys are real numbers. -/
module

public import proofs.«01_k».proof.Defs
public import proofs.«01_k».proof.Proof.Value

@[expose] public section

set_option maxRecDepth 16384

noncomputable section

namespace Cert.Pre_finite_queries_and_keys

open Idealize.ShloMosaic

theorem facts : Facts := ⟨by decide, by decide, by decide⟩

/-- A number of absolute value below +∞ is real. -/
theorem real_of_abs (x : EReal) (h : max x (-x) < ⊤) : ∃ r : ℝ, x = r := by
  induction x using EReal.rec with
  | bot => simp at h
  | coe r => exact ⟨r, rfl⟩
  | top => simp at h

theorem of_ofBool {p : Prop} [Decidable p] (h : BitVec.ofBool (decide p) = 1#1) : p := by
  by_contra hc
  rw [decide_eq_false hc] at h
  exact absurd h (by decide)

theorem real_of_pre [Facts] (proj : FVec Ideal S8x2048x6144 .bf16) (dl : FVec Ideal S4x128 .f32) (g : FVec Ideal S256 .f32)
    (h : fn (F := Ideal) proj dl g = fun _ => 1#1) : Cert.KernelIdeal.Value.RealQK proj := by
  intro b n j hj
  have e := congrFun h (ix3 b n (⟨j.val, hj⟩ : Fin 4096))
  pointwise [fn, Cert.Softmax.ofBits_infinity] at e
  exact real_of_abs _ (of_ofBool e)

end Cert.Pre_finite_queries_and_keys

end
-- ==== Proof.Tiles.lean ====
/- Hand-written. Facts the two expert products share: loads and stores of a whole block, and the words of the two
   tables (which expert each tile belongs to, and how many tiles are in use). -/
module

public import Idealize.ShloMosaic.Lib.Writes
public import Idealize.ShloMosaic.Lib.WritesUnit
public import Idealize.ShloMosaic.Lib.VecWindow
public import Idealize.ShloMosaic.Lib.Pipeline.ValueKit

@[expose] public section

set_option maxRecDepth 16384

noncomputable section

namespace Cert.Tiles

open Idealize.ShloMosaic
open Idealize.ShloMosaic.TcCoe Idealize.ShloMosaic.Tactic

variable {sig : RefSig}

/-- A store of a view's whole shape leaves what was stored. -/
theorem read_store_full {Val : EltTy → Type} {κ : Kind} {sp : Space} {s : Shape} {e : EltTy} (v : View sig κ sp s e) (f : v.ty.Contents Val)
    {off : Fin s.rank → ℕ} (inb : ∀ a, off a + s.size a ≤ s.size a) (w : s.Idx → Val e) (L : List (View.Piece Val s e)) (h : off = fun _ => 0) :
    v.read Val (v.writes Val f (⟨Rect.unit off s.size inb, w⟩ :: L)) = w := by
  funext y
  exact View.read_writes_cons_unit_of_mem v f inb w L y y h (fun a => by simp)

/-- A load of a block's whole shape reads the block. -/
theorem load_full {Val : EltTy → Type} [∀ e, Nonempty (Val e)] {κ : Kind} {sp : Space} {s : Shape} {e : EltTy} (v : View sig κ sp s e)
    {off : Fin s.rank → ℕ} (inb : ∀ a, off a + s.size a ≤ s.size a) (x : s.Idx → Val e) :
    v.readAt Val (Rect.unit off s.size inb).toLoadRect (v.rep x) = x :=
  (View.readAt_full v _ inb).trans (View.read_rep v x)

/-- Tables in range: every tile's expert is one of the 16, and between one and 80 tiles are in use. -/
structure Good (T0 : (Shape.Idx ⟨1, ![80]⟩) → BitVec 32) (T1 : (Shape.Idx ⟨1, ![1]⟩) → BitVec 32) : Prop where
  te : ∀ k, (T0 (ix1 k)).toNat < 16
  one_le : 1 ≤ (T1 (ix1 0)).toNat
  le : (T1 (ix1 0)).toNat ≤ 80

theorem slt_small : ∀ (n : Fin 80) (v : Fin 81), Scalar.cmpi .slt (BitVec.ofNat 32 n.val) (BitVec.ofNat 32 v.val) = 1#1 ↔ n.val < v.val := by
  decide +kernel
theorem min_small : ∀ (n : Fin 80) (v : Fin 81), 1 ≤ v.val →
    (Scalar.minsi (BitVec.ofNat 32 n.val) (Scalar.subi (BitVec.ofNat 32 v.val) 1#32)).toNat = min n.val (v.val - 1) := by
  decide +kernel

theorem min_word (n : Fin 80) (v : BitVec 32) (h1 : 1 ≤ v.toNat) (h : v.toNat ≤ 80) :
    (Scalar.minsi (BitVec.ofNat 32 n.val) (Scalar.subi v 1#32)).toNat = min n.val (v.toNat - 1) := by
  have := min_small n ⟨v.toNat, Nat.lt_succ_of_le h⟩ h1
  simpa only [BitVec.ofNat_toNat, BitVec.setWidth_eq] using this

theorem bit_cases : ∀ x y z : BitVec 1, (Scalar.cmpi .ne (Scalar.extui (Scalar.andi x (Scalar.ori y z)) : BitVec 32) 0#32 = 1#1 ↔ x = 1#1 ∧ (y = 1#1 ∨ z = 1#1)) := by
  decide +kernel
theorem bit_ne : ∀ x : BitVec 1, (Scalar.cmpi .ne (Scalar.extui x : BitVec 32) 0#32 = 1#1 ↔ x = 1#1) := by decide +kernel
theorem bit_not : ∀ x : BitVec 1, (Scalar.cmpi .ne (Scalar.extui (Scalar.xori x 1#1) : BitVec 32) 0#32 = 1#1 ↔ ¬ x = 1#1) := by decide +kernel

theorem zero_iff : ∀ n : Fin 80, Scalar.cmpi .eq (BitVec.ofNat 32 n.val) 0#32 = 1#1 ↔ n.val = 0 := by decide +kernel
theorem ne_iff (x y : BitVec 32) : Scalar.cmpi .ne x y = 1#1 ↔ x ≠ y := by
  by_cases h : x = y <;> simp [Scalar.cmpi, IntOp.cmpi, h, BitVec.ofBool, bne, beq_eq_false_iff_ne.mpr]

theorem used_iff (n : Fin 80) (v : BitVec 32) (hv : v.toNat ≤ 80) :
    Scalar.cmpi .slt (BitVec.ofNat 32 n.val) v = 1#1 ↔ n.val < v.toNat := by
  have := slt_small n ⟨v.toNat, by omega⟩
  rwa [BitVec.ofNat_toNat, BitVec.setWidth_eq] at this

end Cert.Tiles

end
-- ==== Proof.TilesPre.lean ====
/- Hand-written. What the preconditions of the two expert products say: every tile's expert is one of the 16, and
   between one and 80 tiles are in use. -/
module

public import proofs.«01_k».proof.Pre_tiles_in_range
public import proofs.«01_k».proof.Pre_down_tiles_in_range
public import proofs.«01_k».proof.Proof.Tiles
public import Idealize.ShloMosaic.Lib.Claim
public import Idealize.ShloMosaic.Lib.Pointwise

@[expose] public section

set_option maxRecDepth 16384

noncomputable section

namespace Cert.Tiles

open Idealize.ShloMosaic
open Idealize.ShloMosaic.TcCoe Idealize.ShloMosaic.Tactic

variable {F : FTy → Type} [FloatOps F]

theorem and_one : ∀ x y : BitVec 1, x &&& y = 1#1 ↔ x = 1#1 ∧ y = 1#1 := by decide
theorem ofBool_one (b : Bool) : BitVec.ofBool b = 1#1 ↔ b = true := by cases b <;> decide

/-- A word between two small bounds as signed numbers is between them as naturals. -/
theorem nat_of_le {l u : ℕ} (hl : l < 2 ^ 31) (hu : u < 2 ^ 31) (x : BitVec 32) (h0 : (BitVec.ofNat 32 l).sle x = true) (h1 : x.sle (BitVec.ofNat 32 u) = true) :
    l ≤ x.toNat ∧ x.toNat ≤ u := by
  rw [BitVec.sle_iff_toInt_le] at h0 h1
  rw [BitVec.toInt_eq_toNat_cond, BitVec.toInt_eq_toNat_cond, BitVec.toNat_ofNat] at h0 h1
  have := x.isLt
  split at h0 <;> split at h0 <;> split at h1 <;> omega

theorem nat_of_lt {u : ℕ} (hu : u < 2 ^ 31) (x : BitVec 32) (h0 : (0#32).sle x = true) (h1 : x.slt (BitVec.ofNat 32 u) = true) : x.toNat < u := by
  rw [BitVec.sle_iff_toInt_le] at h0
  rw [BitVec.slt_iff_toInt_lt] at h1
  rw [BitVec.toInt_eq_toNat_cond, BitVec.toInt_eq_toNat_cond, BitVec.toNat_ofNat] at h0 h1
  have := x.isLt
  split at h0 <;> split at h0 <;> split at h1 <;> omega

theorem up_facts : Cert.Pre_tiles_in_range.Facts := ⟨by decide, by decide, by decide⟩
theorem down_facts : Cert.Pre_down_tiles_in_range.Facts := ⟨by decide, by decide, by decide⟩

theorem good_of_down [Cert.Pre_down_tiles_in_range.Facts] (x) (w) (te : IVec ⟨1, ![80]⟩ 32) (nv : IVec ⟨1, ![1]⟩ 32)
    (h : Cert.Pre_down_tiles_in_range.fn (F := F) x w te nv = fun _ => 1#1) : Good te nv := by
  have b := congrFun h (ix1 (80 : Fin 81))
  pointwise [Cert.Pre_down_tiles_in_range.fn] at b
  obtain ⟨b0, b1⟩ := (and_one _ _).mp b
  have bb := nat_of_le (l := 1) (u := 80) (by decide) (by decide) (nv (ix1 0)) ((ofBool_one _).mp b0) ((ofBool_one _).mp b1)
  refine ⟨fun k => ?_, bb.1, bb.2⟩
  have a := congrFun h (ix1 (⟨k.val, by omega⟩ : Fin 81))
  have hk : k.val < 80 := k.isLt
  pointwise [Cert.Pre_down_tiles_in_range.fn, hk] at a
  obtain ⟨a0, a1⟩ := (and_one _ _).mp a
  exact nat_of_lt (u := 16) (by decide) (te (ix1 k)) ((ofBool_one _).mp a0) ((ofBool_one _).mp a1)

theorem good_of_up [Cert.Pre_tiles_in_range.Facts] (x) (wg wu) (te : IVec ⟨1, ![80]⟩ 32) (nv : IVec ⟨1, ![1]⟩ 32)
    (h : Cert.Pre_tiles_in_range.fn (F := F) x wg wu te nv = fun _ => 1#1) : Good te nv :=
  haveI := down_facts
  good_of_down (F := F) (fun _ => Scalar.ofBits .bf16 0) (fun _ => Scalar.ofBits .f32 0) te nv h

end Cert.Tiles

end
-- ==== Proof.Gates.lean ====
/- Hand-written. The experts' gates as the references compute them from the tables, read at an index. -/
module

public import proofs.«01_k».proof.Proof.Gen.Reference2Ideal.Run
public import proofs.«01_k».proof.Proof.TilesPre
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Tiles

/-- The gates: one where a row is used and its tile's expert is the one at the index, and zero elsewhere. -/
def gates (te : IVec S80 32) (nv : IVec S1 32) : FVec Ideal S40960x16 .f32 :=
  uitofp .f32 (andi (cmpi .eq
      (broadcastInDim S40960x16 ![0, 1] bcast_S40960x1_S40960x16_0_1 (broadcastInDim S40960x1 ![0] bcast_S40960_S40960x1_0
        (shapeCast _ (broadcastInDim S80x512 ![0, 1] bcast_S80x1_S80x512_0_1 (broadcastInDim S80x1 ![0] bcast_S80_S80x1_0 te))
          shapeCasts_S80x512_S40960)))
      (broadcastInDim S40960x16 ![0, 1] bcast_S1x16_S40960x16_0_1 (broadcastInDim S1x16 ![1] bcast_S16_S1x16_1 (iotaInDim S16 32 0))))
    (broadcastInDim S40960x16 ![0, 1] bcast_S40960x1_S40960x16_0_1 (broadcastInDim S40960x1 ![0] bcast_S40960_S40960x1_0
      (cmpi .slt (iotaInDim S40960 32 0) (broadcastInDim S40960 ![] bcast_S_S40960
        (muli (shapeCast _ nv shapeCasts_S1_S_) (constantI S_ 32 512#32)))))))

/-- A bit read as a number. -/
theorem bit_float (b : BitVec 1) : FloatOps.uitofp (F := Ideal) FTy.f32 b = if b = 1#1 then 1 else 0 := by
  revert b
  intro ⟨⟨k, hk⟩⟩
  have : k = 0 ∨ k = 1 := by omega
  rcases this with rfl | rfl
  · exact (show (((0 : ℕ) : ℝ) : EReal) = 0 by simp).trans (if_neg (show ¬ (0#1 : BitVec 1) = 1#1 by decide)).symm
  · exact (show (((1 : ℕ) : ℝ) : EReal) = 1 by simp).trans (if_pos rfl).symm

/-- Whether a row comes before the used tiles' end, from its tile. -/
theorem row_used (n : Fin 80) (i : Fin 512) (v : BitVec 32) (hv : v.toNat ≤ 80) :
    IntOp.cmpi CmpIPredicate.slt (BitVec.ofNat 32 (n.val * 512 + i.val)) (IntOp.muli v 512#32) = 1#1 ↔ n.val < v.toNat := by
  have h1 : (BitVec.ofNat 32 (n.val * 512 + i.val)).toNat = n.val * 512 + i.val := by
    rw [BitVec.toNat_ofNat]; exact Nat.mod_eq_of_lt (by omega)
  have h2 : (v * 512#32).toNat = v.toNat * 512 := by
    rw [BitVec.toNat_mul]; exact Nat.mod_eq_of_lt (by simp; omega)
  show BitVec.ofBool ((BitVec.ofNat 32 (n.val * 512 + i.val)).slt (v * 512#32)) = 1#1 ↔ _
  rw [ofBool_one, BitVec.slt, decide_eq_true_iff, BitVec.toInt_eq_toNat_of_lt (by rw [h1]; omega), BitVec.toInt_eq_toNat_of_lt (by rw [h2]; omega), h1, h2]
  omega

theorem gates_at (te : IVec S80 32) (nv : IVec S1 32) (g : Good te nv) (n : Fin 80) (i : Fin 512) (e : Fin 16) :
    gates te nv (ix2 ⟨n.val * 512 + i.val, by omega⟩ e)
      = if n.val < (nv (ix1 0)).toNat ∧ e = ⟨(te (ix1 n)).toNat, g.te n⟩ then 1 else 0 := by
  pointwise [gates]
  rw [bit_float]
  refine if_congr ?_ rfl rfl
  refine (and_one _ _).trans ?_
  rw [row_used n i _ g.le, and_comm]
  refine and_congr_right fun _ => ?_
  show BitVec.ofBool (te (ix1 n) == BitVec.ofNat 32 e.val) = 1#1 ↔ _
  rw [ofBool_one, beq_iff_eq, ← BitVec.toNat_inj, BitVec.toNat_ofNat, Fin.ext_iff]
  have : e.val % 2 ^ 32 = e.val := Nat.mod_eq_of_lt (by omega)
  rw [this]
  exact eq_comm

/-- A sum over the experts gated at one of them. -/
theorem sum_gated (used : Prop) [Decidable used] (k : Fin 16) (v : Fin 16 → EReal) :
    (∑ e : Fin 16, v e * (if used ∧ e = k then 1 else 0)) = if used then v k else 0 := by
  by_cases hu : used
  · rw [if_pos hu, Finset.sum_eq_single k (fun e _ h => by rw [if_neg (fun q => h q.2), mul_zero]) (fun h => absurd (Finset.mem_univ _) h),
      if_pos ⟨hu, rfl⟩, mul_one]
  · rw [if_neg hu]
    exact Finset.sum_eq_zero fun e _ => by rw [if_neg (fun q => hu q.1), mul_zero]

end Cert.Reference2Ideal.Value

end
-- ==== Proof.UpRun.lean ====
/- Hand-written. The body of the expert up-projection, run on its three control paths, at any tables and over any
   arithmetic. -/
module

public import proofs.«01_k».proof.Proof.Gen.Kernel2.Skeleton
public import proofs.«01_k».proof.Proof.Gen.Kernel2.Launch
public import proofs.«01_k».proof.Proof.Tiles
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Tactic
public import Idealize.ShloMosaic.Lib.WritesUnit
public import Idealize.ShloMosaic.Lib.VecWindow

@[expose] public section

set_option maxRecDepth 16384
set_option Elab.async false

noncomputable section

namespace Cert.Kernel2.Tiles

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Tiles

variable {F : FTy → Type} [FloatOps F]

local notation "𝕄" => MT nD τ sig Unit (Elt F) ℕ (UR sig nD τ) ℕ

/-- The two tables and the two scratch buffers, whole. -/
abbrev teM : Memref sig .tc .smem S80 .i32 := Memref.whole main_arg3
abbrev nvM : Memref sig .tc .smem S1 .i32 := Memref.whole main_arg4
abbrev gateM : Memref sig .tc .vmem S2048x512 .bf16 := Memref.whole cc0_scratch0
abbrev upM : Memref sig .tc .vmem S2048x512 .bf16 := Memref.whole cc0_scratch1

/-- The number of tiles in use, as the body reads it. -/
abbrev nvW (T1 : S1.Idx → Elt F .i32) : BitVec 32 :=
  View.readAt (Elt F) nvM.view (Rect.unit (s := S1) ![0] S1.size inb_S1_S1_0).toLoadRect T1 (Shape.Idx.first (numel1_S1.symm ▸ Nat.one_pos))
/-- The tile's expert, as the body reads it. -/
abbrev teW (T0 : S80.Idx → Elt F .i32) (i : grid0.Coords) : BitVec 32 :=
  View.readAt (Elt F) teM.view (Rect.unit (s := S80) (k0_off1 i) S1.size (k0_off1_inb i)).toLoadRect T0 (Shape.Idx.first (numel1_S1.symm ▸ Nat.one_pos))
/-- The previous tile's expert, as the body reads it. -/
abbrev tePrevW (T0 : S80.Idx → Elt F .i32) (i : grid0.Coords) : BitVec 32 :=
  View.readAt (Elt F) teM.view (Rect.unit (s := S80) (k0_off2 i) S1.size (k0_off2_inb i)).toLoadRect T0 (Shape.Idx.first (numel1_S1.symm ▸ Nat.one_pos))

/-- The condition under which the body casts the weights of a new expert. -/
abbrev newW (T0 : S80.Idx → Elt F .i32) (T1 : S1.Idx → Elt F .i32) (i : grid0.Coords) : BitVec 1 :=
  Scalar.cmpi .ne (Scalar.extui (Scalar.andi (Scalar.cmpi .slt (BitVec.ofNat 32 (i 1).val) (nvW T1))
    (Scalar.ori (Scalar.cmpi .eq (BitVec.ofNat 32 (i 1).val) 0#32) (Scalar.cmpi .ne (teW T0 i) (tePrevW T0 i))))) 0#32

/-- Reading a whole buffer is its contents. -/
theorem read_whole {Val : EltTy → Type} {κ : Kind} (b : Ref sig κ) (f : b.ty.Contents Val) :
    (Memref.whole b : Memref sig κ _ _ _).view.read Val f = f := rfl

/-- A store to the whole of a scratch buffer leaves what was stored, -/
theorem gate_store (f w : S2048x512.Idx → Elt F .bf16) :
    gateM.view.writes (Elt F) f [⟨Rect.unit ![0, 0] S2048x512.size inb_S2048x512_S2048x512_0_0, w⟩] = w :=
  (read_whole cc0_scratch0 _).symm.trans (read_store_full gateM.view f inb_S2048x512_S2048x512_0_0 w [] (by decide))
theorem up_store (f w : S2048x512.Idx → Elt F .bf16) :
    upM.view.writes (Elt F) f [⟨Rect.unit ![0, 0] S2048x512.size inb_S2048x512_S2048x512_0_0, w⟩] = w :=
  (read_whole cc0_scratch1 _).symm.trans (read_store_full upM.view f inb_S2048x512_S2048x512_0_0 w [] (by decide))

/-- and a load of it reads what it holds. -/
theorem gate_load (f : S2048x512.Idx → Elt F .bf16) :
    gateM.view.readAt (Elt F) (Rect.unit ![0, 0] S2048x512.size inb_S2048x512_S2048x512_0_0).toLoadRect f = f :=
  View.readAt_full gateM.view f inb_S2048x512_S2048x512_0_0
theorem up_load (f : S2048x512.Idx → Elt F .bf16) :
    upM.view.readAt (Elt F) (Rect.unit ![0, 0] S2048x512.size inb_S2048x512_S2048x512_0_0).toLoadRect f = f :=
  View.readAt_full upM.view f inb_S2048x512_S2048x512_0_0

section Runs

variable (c : Dev nD) (i : grid0.Coords)
  (arg4 : Memref sig .tc .vmem S512x2048 .f32) (harg4 : arg4.IsWhole) (arg5 : Memref sig .tc .vmem S1x2048x512 .f32) (harg5 : arg5.IsWhole)
  (arg6 : Memref sig .tc .vmem S1x2048x512 .f32) (harg6 : arg6.IsWhole) (arg7 : Memref sig .tc .vmem S512x512 .bf16) (harg7 : arg7.IsWhole)
  (T0 : S80.Idx → Elt F .i32) (T1 : S1.Idx → Elt F .i32)
  (x0 : S512x2048.Idx → Elt F .f32) (x1 : S1x2048x512.Idx → Elt F .f32) (x2 : S1x2048x512.Idx → Elt F .f32)

/-- What the body holds: the three blocks, the tables, the output block and the two scratch buffers. -/
def held (d : S512x512.Idx → Elt F .bf16) (s0 s1 : S2048x512.Idx → Elt F .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (teM.view.loc (c : Thread nD τ) ↦{fullShare.right} T0)
    ∗ (nvM.view.loc (c : Thread nD τ) ↦{fullShare.right} T1)
    ∗ owns (c : Thread nD τ) arg7 fullShare d
    ∗ (gateM.view.loc (c : Thread nD τ) ↦{fullShare} s0)
    ∗ (upM.view.loc (c : Thread nD τ) ↦{fullShare} s1))

/-- The body at this point, on the given buffers. -/
abbrev body := cc0_moe_up (F := F) i teM (Memref.isWhole_whole _) nvM (Memref.isWhole_whole _) arg4 harg4 arg5 harg5 arg6 harg6 arg7 harg7
  gateM (Memref.isWhole_whole _) upM (Memref.isWhole_whole _)

set_option maxHeartbeats 8000000 in
/-- A tile in use whose expert is new: both weights are cast, then the tile is computed. -/
theorem run_new (hnew : newW T0 T1 i = 1#1) (h2 : k0_cond2 i (nvW T1) = 1#1) (h3 : ¬ k0_cond3 i (nvW T1) = 1#1)
    (d : S512x512.Idx → Elt F .bf16) (s0 s1 : S2048x512.Idx → Elt F .bf16) (K : PUnit → sProp 𝕄) :
    iprop(held c arg4 arg5 arg6 arg7 T0 T1 x0 x1 x2 d s0 s1
      ∗ (held c arg4 arg5 arg6 arg7 T0 T1 x0 x1 x2 (k0_pay3 x0 (k0_pay1 x1) (k0_pay2 x2)) (k0_pay1 x1) (k0_pay2 x2) -∗ K ⟨⟩))
      ⊢ wp frame (wpE (defs₀ (F := F)) Variants.none c none) Set.univ (body i arg4 harg4 arg5 harg5 arg6 harg6 arg7 harg7) K := by
  unfold held owns body
  rw [cc0_moe_up_eq_skeleton]; unfold cc0_moe_up_skel
  iintro ⟨⟨H0, H1, H2, HT0, HT1, ⟨%f3, -, HO3⟩, HS0, HS1⟩, Hk⟩
  have hS0 : gateM.IsWhole := Memref.isWhole_whole _
  have hS1 : upM.IsWhole := Memref.isWhole_whole _
  have hT0 : teM.IsWhole := Memref.isWhole_whole _
  have hT1 : nvM.IsWhole := Memref.isWhole_whole _
  sl_exec! (disch := first | (guard_target = Scalar.cmpi = _; exact hnew) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      delta run_new.sl.HO3_1
      refine (read_store_full _ _ _ _ _ (by decide)).trans ?_
      delta run_new.sl.v21 run_new.sl.v23 View.readCov
      rw [gate_load, up_load]
      delta run_new.sl.HS0_1 run_new.sl.HS1_1
      rw [gate_store, up_store, load_full, load_full, load_full]
  delta run_new.sl.HS0_1 run_new.sl.HS1_1
  rw [gate_store, up_store, load_full, load_full]
  isplitl [HS0]; · iexact HS0
  iexact HS1

set_option maxHeartbeats 8000000 in
/-- A tile in use of the expert already cast: the tile is computed from the weights held. -/
theorem run_same (hnew : ¬ newW T0 T1 i = 1#1) (h2 : k0_cond2 i (nvW T1) = 1#1) (h3 : ¬ k0_cond3 i (nvW T1) = 1#1)
    (d : S512x512.Idx → Elt F .bf16) (s0 s1 : S2048x512.Idx → Elt F .bf16) (K : PUnit → sProp 𝕄) :
    iprop(held c arg4 arg5 arg6 arg7 T0 T1 x0 x1 x2 d s0 s1
      ∗ (held c arg4 arg5 arg6 arg7 T0 T1 x0 x1 x2 (k0_pay3 x0 s0 s1) s0 s1 -∗ K ⟨⟩))
      ⊢ wp frame (wpE (defs₀ (F := F)) Variants.none c none) Set.univ (body i arg4 harg4 arg5 harg5 arg6 harg6 arg7 harg7) K := by
  unfold held owns body
  rw [cc0_moe_up_eq_skeleton]; unfold cc0_moe_up_skel
  iintro ⟨⟨H0, H1, H2, HT0, HT1, ⟨%f3, -, HO3⟩, HS0, HS1⟩, Hk⟩
  have hS0 : gateM.IsWhole := Memref.isWhole_whole _
  have hS1 : upM.IsWhole := Memref.isWhole_whole _
  have hT0 : teM.IsWhole := Memref.isWhole_whole _
  have hT1 : nvM.IsWhole := Memref.isWhole_whole _
  sl_exec! (disch := first | (guard_target = ¬(Scalar.cmpi = _); exact hnew) | (guard_target = k0_cond2 _ _ = _; exact h2) | (guard_target = ¬(k0_cond3 _ _ = _); exact h3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      delta run_same.sl.HO3_1
      refine (read_store_full _ _ _ _ _ (by decide)).trans ?_
      rw [gate_load, up_load, load_full]
  isplitl [HS0]; · iexact HS0
  iexact HS1

set_option maxHeartbeats 8000000 in
/-- A tile not in use: zeros. -/
theorem run_unused (hnew : ¬ newW T0 T1 i = 1#1) (h2 : ¬ k0_cond2 i (nvW T1) = 1#1) (h3 : k0_cond3 i (nvW T1) = 1#1)
    (d : S512x512.Idx → Elt F .bf16) (s0 s1 : S2048x512.Idx → Elt F .bf16) (K : PUnit → sProp 𝕄) :
    iprop(held c arg4 arg5 arg6 arg7 T0 T1 x0 x1 x2 d s0 s1
      ∗ (held c arg4 arg5 arg6 arg7 T0 T1 x0 x1 x2 k0_pay4 s0 s1 -∗ K ⟨⟩))
      ⊢ wp frame (wpE (defs₀ (F := F)) Variants.none c none) Set.univ (body i arg4 harg4 arg5 harg5 arg6 harg6 arg7 harg7) K := by
  unfold held owns body
  rw [cc0_moe_up_eq_skeleton]; unfold cc0_moe_up_skel
  iintro ⟨⟨H0, H1, H2, HT0, HT1, ⟨%f3, -, HO3⟩, HS0, HS1⟩, Hk⟩
  have hS0 : gateM.IsWhole := Memref.isWhole_whole _
  have hS1 : upM.IsWhole := Memref.isWhole_whole _
  have hT0 : teM.IsWhole := Memref.isWhole_whole _
  have hT1 : nvM.IsWhole := Memref.isWhole_whole _
  sl_exec! (disch := first | (guard_target = ¬(Scalar.cmpi = _); exact hnew) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [HT0]; · iexact HT0
  isplitl [HT1]; · iexact HT1
  isplitl [HO3]
  · iexists _; isplitr; swap
    · iexact HO3
    · ipureintro
      exact read_store_full _ _ _ _ _ (by decide)
  isplitl [HS0]; · iexact HS0
  iexact HS1

end Runs

end Cert.Kernel2.Tiles

end
-- ==== Proof.Up.lean ====
/- Hand-written. The expert up-projection at any tables in range, over any arithmetic: what each grid point holds and
   leaves, the launch, and the array it ends with. -/
module

public import proofs.«01_k».proof.Proof.UpRun
public import Idealize.ShloMosaic.Lib.Claim
public import Idealize.ShloMosaic.Lib.Pipeline.ValueKit
public import Idealize.ShloMosaic.Adequacy
public import Idealize.ShloMosaic.Init

@[expose] public section

set_option maxRecDepth 16384
set_option Elab.async false

noncomputable section

namespace Cert.Kernel2.Tiles

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Tiles

variable {F : FTy → Type} [FloatOps F]

local notation "𝕄" => MT nD τ sig Unit (Elt F) ℕ (UR sig nD τ) ℕ

/-! ## The tables' words -/

theorem nvW_eq (T1 : S1.Idx → Elt F .i32) : nvW (F := F) T1 = T1 (ix1 0) :=
  congrArg T1 (funext fun a => Fin.ext (by fin_cases a; rfl))

theorem off1_val : ∀ i : grid0.Coords, k0_off1 i 0 = (i 1).val := by decide +kernel
theorem off2_val : ∀ i : grid0.Coords, k0_off2 i 0 = (i 1).val - 1 := by decide +kernel

theorem teW_eq (T0 : S80.Idx → Elt F .i32) (i : grid0.Coords) : teW (F := F) T0 i = T0 (ix1 (i 1)) :=
  congrArg T0 (funext fun a => Fin.ext (by fin_cases a; exact off1_val i))

theorem tePrevW_eq (T0 : S80.Idx → Elt F .i32) (i : grid0.Coords) (k : Fin 80) (hk : k.val = (i 1).val - 1) :
    tePrevW (F := F) T0 i = T0 (ix1 k) :=
  congrArg T0 (funext fun a => Fin.ext (by fin_cases a; exact (off2_val i).trans hk.symm))

theorem cond2_iff (i : grid0.Coords) (v : BitVec 32) : k0_cond2 i v = 1#1 ↔ Scalar.cmpi .slt (BitVec.ofNat 32 (i 1).val) v = 1#1 := bit_ne _
theorem cond3_iff (i : grid0.Coords) (v : BitVec 32) : k0_cond3 i v = 1#1 ↔ ¬ Scalar.cmpi .slt (BitVec.ofNat 32 (i 1).val) v = 1#1 := bit_not _

/-! ## The windows' block indices -/

theorem tr0_eq (pf : pre0.Contents (Elt F)) (h : Good (pf 0) (pf 1)) (i : grid0.Coords) :
    cc0_transform_0 inb_S1_S1_0 numel1_S1 pf i = ![min (i 1).val ((pf 1 (ix1 0) : BitVec 32).toNat - 1), 0] := by
  have e : pf.at 1 (Rect.unit (s := S1) ![0] S1.size inb_S1_S1_0) numel1_S1 = pf 1 (ix1 0) :=
    congrArg (pf 1) (funext fun a => Fin.ext (by fin_cases a; rfl))
  have := min_word (i 1) _ h.one_le h.le
  unfold cc0_transform_0
  rw [e]
  simp only [this]
  rfl

theorem tr1_eq (pf : pre0.Contents (Elt F)) (i : grid0.Coords) :
    cc0_transform_1 k0_off1_inb numel1_S1 pf i = ![(pf 0 (ix1 (i 1)) : BitVec 32).toNat, 0, (i 0).val] := by
  have e : pf.at 0 (Rect.unit (s := S80) (k0_off1 i) S1.size (k0_off1_inb i)) numel1_S1 = pf 0 (ix1 (i 1)) :=
    congrArg (pf 0) (funext fun a => Fin.ext (by fin_cases a; exact off1_val i))
  have e0 : (BitVec.ofNat 32 (i 0).val).toNat = (i 0).val := by
    rw [BitVec.toNat_ofNat]; exact Nat.mod_eq_of_lt (lt_trans (i 0).isLt (by decide))
  show ![(pf.at 0 (Rect.unit (s := S80) (k0_off1 i) S1.size (k0_off1_inb i)) numel1_S1 : BitVec 32).toNat, 0, (BitVec.ofNat 32 (i 0).val).toNat] = _
  rw [e, e0]

theorem tr2_eq (pf : pre0.Contents (Elt F)) (i : grid0.Coords) :
    cc0_transform_2 k0_off1_inb numel1_S1 pf i = ![(pf 0 (ix1 (i 1)) : BitVec 32).toNat, 0, (i 0).val] := tr1_eq pf i

theorem tr3_eq : ∀ i : grid0.Coords, cc0_transform_3 i = ![(i 1).val, (i 0).val] := by decide +kernel

/-- Tables in range are admissible: every block they name is inside its array. -/
theorem ok_of_good (pf : pre0.Contents (Elt F)) (h : Good (pf 0) (pf 1)) : ok0 pf := by
  have w (i : grid0.Coords) : ∀ a : Fin 3, ((![(pf 0 (ix1 (i 1)) : BitVec 32).toNat, 0, (i 0).val] : Fin 3 → ℕ) a + 1) * S1x2048x512.size a ≤ S16x2048x1024.size a := by
    have h1 := h.te (i 1)
    have h0 := (i 0).isLt
    intro a
    fin_cases a
    · show ((pf 0 (ix1 (i 1)) : BitVec 32).toNat + 1) * 1 ≤ 16; omega
    · show (0 + 1) * 2048 ≤ 2048; omega
    · show ((i 0).val + 1) * 512 ≤ 1024
      have : (i 0).val < 2 := h0
      omega
  refine ⟨fun i => ⟨?_, .inl rfl⟩, fun i => ⟨?_, .inl rfl⟩, fun i => ⟨?_, .inl rfl⟩⟩
  · rw [tr0_eq pf h]
    have := h.one_le
    have := h.le
    intro a
    fin_cases a
    · show (min (i 1).val ((pf 1 (ix1 0) : BitVec 32).toNat - 1) + 1) * 512 ≤ 40960; omega
    · show (0 + 1) * 2048 ≤ 2048; omega
  · rw [tr1_eq]; exact w i
  · rw [tr2_eq]; exact w i

/-! ## The blocks -/

variable (a : (pcfg0 (F := F)).Adm) (m : (ℓ : Loc nD τ sig) → Buf (Elt F) ℓ) (ρ : Dev nD → PrngReg)

abbrev cfgA : Pipeline.Cfg sig Λ₀ := cfg0 (F := F) a
abbrev pcs : Fin 1 → Pipeline.Cfg sig Λ₀ := Pipeline.pin (pcfgs (F := F)) fun _ => a
abbrev crd (t : Fin (cfgA a).N) : grid0.Coords := (cfgA a).grid.coords t

/-- Each window's staging buffer at a point, and that it is whole. -/
abbrev ms0 (t : Fin (cfgA a).N) : Memref sig .tc .vmem S512x2048 .f32 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x512 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x512 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x512 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- A tile's rows of the inputs. -/
def xB (A : S40960x2048.Idx → Elt F .f32) (n : Fin 80) : S512x2048.Idx → Elt F .f32 :=
  fun y => A (ix2 ⟨n.val * 512 + (y 0).val, by have := n.isLt; have : (y 0).val < 512 := (y 0).isLt; omega⟩ (y 1))
/-- One half of the columns of an expert's weights. -/
def wB (A : S16x2048x1024.Idx → Elt F .f32) (e : Fin 16) (j : Fin 2) : S1x2048x512.Idx → Elt F .f32 :=
  fun y => A (ix3 e (y 1) ⟨j.val * 512 + (y 2).val, by have := j.isLt; have : (y 2).val < 512 := (y 2).isLt; omega⟩)

abbrev T0 : S80.Idx → BitVec 32 := a.1 0
abbrev T1 : S1.Idx → BitVec 32 := a.1 1

variable (g : Good (T0 a) (T1 a))

/-- The expert of the tile at a point. -/
abbrev exp (t : Fin (cfgA a).N) : Fin 16 := ⟨(T0 a (ix1 (crd a t 1))).toNat, g.te _⟩
/-- A tile is in use. -/
abbrev used (t : Fin (cfgA a).N) : Prop := (crd a t 1).val < (T1 a (ix1 0)).toNat

include g in
theorem iblk0_eq (c : Dev nD) (t : Fin (cfgA a).N) (n : Fin 80) (hn : n.val = min (crd a t 1).val ((T1 a (ix1 0)).toNat - 1)) :
    iblk a m ρ c (0 : Fin 4) t = xB (m ((c : Thread nD τ).loc main_arg0)) n := by
  funext y
  refine congrArg (m ((c : Thread nD τ).loc main_arg0)) (funext fun d => Fin.ext ?_)
  refine (ValueKit.rect_emb_unit_val _ _ _ y d).trans ?_
  show (cc0_transform_0 inb_S1_S1_0 numel1_S1 a.1 (crd a t)) d * S512x2048.size d + (y d).val = _
  rw [tr0_eq a.1 g]
  fin_cases d
  · show min _ _ * 512 + _ = n.val * 512 + _
    rw [hn]; rfl
  · show 0 * 2048 + (y 1).val = (y 1).val; omega

theorem iblk1_eq (c : Dev nD) (t : Fin (cfgA a).N) :
    iblk a m ρ c (1 : Fin 4) t = wB (m ((c : Thread nD τ).loc main_arg1)) (exp a g t) (crd a t 0) := by
  funext y
  refine congrArg (m ((c : Thread nD τ).loc main_arg1)) (funext fun d => Fin.ext ?_)
  refine (ValueKit.rect_emb_unit_val _ _ _ y d).trans ?_
  show (cc0_transform_1 k0_off1_inb numel1_S1 a.1 (crd a t)) d * S1x2048x512.size d + (y d).val = _
  rw [tr1_eq a.1]
  fin_cases d
  · show _ * 1 + (y 0).val = _
    have : (y 0).val < 1 := (y 0).isLt
    show (T0 a (ix1 (crd a t 1))).toNat * 1 + (y 0).val = (T0 a (ix1 (crd a t 1))).toNat
    omega
  · show 0 * 2048 + (y 1).val = (y 1).val; omega
  · rfl

theorem iblk2_eq (c : Dev nD) (t : Fin (cfgA a).N) :
    iblk a m ρ c (2 : Fin 4) t = wB (m ((c : Thread nD τ).loc main_arg2)) (exp a g t) (crd a t 0) := by
  funext y
  refine congrArg (m ((c : Thread nD τ).loc main_arg2)) (funext fun d => Fin.ext ?_)
  refine (ValueKit.rect_emb_unit_val _ _ _ y d).trans ?_
  show (cc0_transform_2 k0_off1_inb numel1_S1 a.1 (crd a t)) d * S1x2048x512.size d + (y d).val = _
  rw [tr2_eq a.1]
  fin_cases d
  · show _ * 1 + (y 0).val = _
    have : (y 0).val < 1 := (y 0).isLt
    show (T0 a (ix1 (crd a t 1))).toNat * 1 + (y 0).val = (T0 a (ix1 (crd a t 1))).toNat
    omega
  · show 0 * 2048 + (y 1).val = (y 1).val; omega
  · rfl

/-! ## What each point leaves -/

/-- What the body leaves in the output block. -/
def after3 (c : Dev nD) (t : Fin (cfgA a).N) : S512x512.Idx → Elt F .bf16 :=
  if used a t then k0_pay3 (iblk a m ρ c (0 : Fin 4) t) (k0_pay1 (iblk a m ρ c (1 : Fin 4) t)) (k0_pay2 (iblk a m ρ c (2 : Fin 4) t))
  else k0_pay4

/-- What the scratch buffers hold before a position: the weights of the tile before it, cast, if that is in use. -/
def Casts (c : Dev nD) (n : ℕ) (s0 s1 : S2048x512.Idx → Elt F .bf16) : Prop :=
  ∀ t : Fin (cfgA a).N, t.val + 1 = n → used a t → s0 = k0_pay1 (iblk a m ρ c (1 : Fin 4) t) ∧ s1 = k0_pay2 (iblk a m ρ c (2 : Fin 4) t)

/-- The invariant between points. -/
def Phi (c : Dev nD) (t : Fin ((cfgA a).N + 1)) : sProp 𝕄 :=
  iprop(∃ s0 s1, ⌜Casts a m ρ c t.val s0 s1⌝ ∗ (gateM.view.loc (c : Thread nD τ) ↦{fullShare} s0) ∗ (upM.view.loc (c : Thread nD τ) ↦{fullShare} s1)
    ∗ (teM.view.loc (c : Thread nD τ) ↦{fullShare.right} T0 a) ∗ (nvM.view.loc (c : Thread nD τ) ↦{fullShare.right} T1 a))

/-- The proof data of the pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 4) t
    | ⟨1, _⟩ => iblk a m ρ c (1 : Fin 4) t
    | ⟨2, _⟩ => iblk a m ρ c (2 : Fin 4) t
    | ⟨3, _⟩ => after3 a m ρ c t
  Φ t := Phi a m ρ c t
  q _ := fullShare
  owed _ := 0

theorem before0 (c : Dev nD) (t : Fin (cfgA a).N) (d) : (dats a m ρ 0 c).before (0 : Fin 4) t d = iblk a m ρ c (0 : Fin 4) t :=
  ((dats a m ρ 0 c).before_in_eq_fetched (0 : Fin 4) rfl (fun _ => rfl) (fun _ _ _ => rfl)
    (fun t => by show iblk a m ρ c (0 : Fin 4) t = _; unfold Dat.blockOf iblk; rfl) t d).trans (by unfold Dat.fetched Dat.blockOf iblk; rfl)
theorem before1 (c : Dev nD) (t : Fin (cfgA a).N) (d) : (dats a m ρ 0 c).before (1 : Fin 4) t d = iblk a m ρ c (1 : Fin 4) t :=
  ((dats a m ρ 0 c).before_in_eq_fetched (1 : Fin 4) rfl (fun _ => rfl) (fun _ _ _ => rfl)
    (fun t => by show iblk a m ρ c (1 : Fin 4) t = _; unfold Dat.blockOf iblk; rfl) t d).trans (by unfold Dat.fetched Dat.blockOf iblk; rfl)
theorem before2 (c : Dev nD) (t : Fin (cfgA a).N) (d) : (dats a m ρ 0 c).before (2 : Fin 4) t d = iblk a m ρ c (2 : Fin 4) t :=
  ((dats a m ρ 0 c).before_in_eq_fetched (2 : Fin 4) rfl (fun _ => rfl) (fun _ _ _ => rfl)
    (fun t => by show iblk a m ρ c (2 : Fin 4) t = _; unfold Dat.blockOf iblk; rfl) t d).trans (by unfold Dat.fetched Dat.blockOf iblk; rfl)

/-- The output block is stored at every point. -/
theorem live3 (i : grid0.Coords) : (cfgA a).idle (3 : Fin 4) i = false := by
  show (!(k0_cond2 i _ == 1#1) && !(k0_cond3 i _ == 1#1)) = false
  rw [Bool.and_eq_false_iff]
  by_cases h : Scalar.cmpi .slt (BitVec.ofNat 32 (i 1).val) ((a.1).atD 1 ![0] : BitVec 32) = 1#1
  · left; rw [(cond2_iff i _).mpr h]; rfl
  · right; rw [(cond3_iff i _).mpr h]; rfl

theorem coords_pred : ∀ t : Fin grid0.N, (grid0.coords t 1).val ≠ 0 → ∀ s : Fin grid0.N, s.val + 1 = t.val →
    (grid0.coords s 1).val = (grid0.coords t 1).val - 1 ∧ grid0.coords s 0 = grid0.coords t 0 := by
  have h : ∀ t : Fin grid0.N, (grid0.coords t 1).val = t.val % 80 ∧ (grid0.coords t 0).val = t.val / 80 := by decide +kernel
  intro t h0 s hs
  rw [(h t).1] at h0 ⊢
  refine ⟨(h s).1.trans (by omega), Fin.ext ?_⟩
  rw [(h s).2, (h t).2]
  omega

include g in
/-- At a tile in use whose expert is the previous tile's, the previous tile's weights are its own. -/
theorem casts_same (c : Dev nD) (t : Fin (cfgA a).N) (hu : used a t) (h0 : (crd a t 1).val ≠ 0)
    (hte : teW (F := F) (T0 a) (crd a t) = tePrevW (F := F) (T0 a) (crd a t)) (s0 s1 : S2048x512.Idx → Elt F .bf16)
    (h : Casts a m ρ c t.val s0 s1) : s0 = k0_pay1 (iblk a m ρ c (1 : Fin 4) t) ∧ s1 = k0_pay2 (iblk a m ρ c (2 : Fin 4) t) := by
  have hN : ∀ t : Fin grid0.N, (grid0.coords t 1).val ≠ 0 → t.val ≠ 0 := by decide +kernel
  have ht : t.val ≠ 0 := hN t h0
  obtain ⟨p, hp⟩ : ∃ p : Fin (cfgA a).N, p.val + 1 = t.val := ⟨⟨t.val - 1, by omega⟩, by show t.val - 1 + 1 = t.val; omega⟩
  obtain ⟨e1, e0⟩ := coords_pred t h0 p hp
  obtain ⟨r0, r1⟩ := h p hp (by show (crd a p 1).val < _; have : (crd a p 1).val = (crd a t 1).val - 1 := e1; have : (crd a t 1).val < _ := hu; omega)
  have hexp : exp a g p = exp a g t := Fin.ext (by
    show (T0 a (ix1 (crd a p 1))).toNat = (T0 a (ix1 (crd a t 1))).toNat
    rw [teW_eq, tePrevW_eq (T0 a) (crd a t) (crd a p 1) e1] at hte
    exact congrArg BitVec.toNat hte.symm)
  have e0' : crd a p 0 = crd a t 0 := e0
  rw [r0, r1, iblk1_eq a m ρ g, iblk1_eq a m ρ g, iblk2_eq a m ρ g, iblk2_eq a m ρ g, hexp, e0']
  exact ⟨rfl, rfl⟩

end Cert.Kernel2.Tiles

end
-- ==== Proof.UpLaunch.lean ====
/- Hand-written. The expert up-projection at any tables in range, over any arithmetic: the body at every grid point,
   the launch, and the array it ends with. -/
module

public import proofs.«01_k».proof.Proof.Up

@[expose] public section

set_option maxRecDepth 16384
set_option Elab.async false

noncomputable section

namespace Cert.Kernel2.Tiles

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Tiles

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg) (g : Good (T0 a) (T1 a))

/-- The body at point `t` on its staging memrefs, as the pipeline calls it. -/
abbrev bodyAt (t : Fin (cfgA a).N) : Prog (TpuEff nD τ sig (Elt F) Λ₀ .tc) PUnit :=
  body (crd a t) (ms0 a t) (hs0 a t) (ms1 a t) (hs1 a t) (ms2 a t) (hs2 a t) (ms3 a t) (hs3 a t)

/-- What the buffers hold at a point, before the body or after it. -/
theorem held_intro (c : Dev nD) (t : Fin (cfgA a).N) (x0 x1 x2 d s0 s1) :
    iprop(owns (c : Thread nD τ) (ms0 a t) fullShare x0 ∗ owns (c : Thread nD τ) (ms1 a t) fullShare x1 ∗ owns (c : Thread nD τ) (ms2 a t) fullShare x2
      ∗ owns (c : Thread nD τ) (ms3 a t) fullShare d ∗ (gateM.view.loc (c : Thread nD τ) ↦{fullShare} s0) ∗ (upM.view.loc (c : Thread nD τ) ↦{fullShare} s1)
      ∗ (teM.view.loc (c : Thread nD τ) ↦{fullShare.right} T0 a) ∗ (nvM.view.loc (c : Thread nD τ) ↦{fullShare.right} T1 a))
    ⊢ (held c (ms0 a t) (ms1 a t) (ms2 a t) (ms3 a t) (T0 a) (T1 a) x0 x1 x2 d s0 s1 : sProp 𝕄) := by
  unfold held
  iintro ⟨H0, H1, H2, H3, HS0, HS1, HT0, HT1⟩
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  iexact HS1

theorem held_elim (c : Dev nD) (t : Fin (cfgA a).N) (x0 x1 x2 d s0 s1) :
    (held c (ms0 a t) (ms1 a t) (ms2 a t) (ms3 a t) (T0 a) (T1 a) x0 x1 x2 d s0 s1 : sProp 𝕄) ⊢
    iprop(owns (c : Thread nD τ) (ms0 a t) fullShare x0 ∗ owns (c : Thread nD τ) (ms1 a t) fullShare x1 ∗ owns (c : Thread nD τ) (ms2 a t) fullShare x2
      ∗ owns (c : Thread nD τ) (ms3 a t) fullShare d ∗ (gateM.view.loc (c : Thread nD τ) ↦{fullShare} s0) ∗ (upM.view.loc (c : Thread nD τ) ↦{fullShare} s1)
      ∗ (teM.view.loc (c : Thread nD τ) ↦{fullShare.right} T0 a) ∗ (nvM.view.loc (c : Thread nD τ) ↦{fullShare.right} T1 a)) := by
  unfold held
  iintro ⟨H0, H1, H2, HT0, HT1, H3, HS0, HS1⟩
  isplitl [H0]; · iapply owns_of_rep; iexact H0
  isplitl [H1]; · iapply owns_of_rep; iexact H1
  isplitl [H2]; · iapply owns_of_rep; iexact H2
  isplitl [H3]; · iexact H3
  isplitl [HS0]; · iexact HS0
  isplitl [HS1]; · iexact HS1
  isplitl [HT0]; · iexact HT0
  iexact HT1

include g in
/-- The body at a point, whichever of its three ways it takes: the block it leaves, and the scratch buffers as the
    next point needs them. -/
theorem run_point (c : Dev nD) (t : Fin (cfgA a).N) (d) (s0 s1 : S2048x512.Idx → Elt F .bf16) (hs : Casts a m ρ c t.val s0 s1) (K : PUnit → sProp 𝕄) :
    iprop(held c (ms0 a t) (ms1 a t) (ms2 a t) (ms3 a t) (T0 a) (T1 a) (iblk a m ρ c (0 : Fin 4) t) (iblk a m ρ c (1 : Fin 4) t) (iblk a m ρ c (2 : Fin 4) t) d s0 s1
      ∗ ((∃ s0' s1', ⌜Casts a m ρ c (t.val + 1) s0' s1'⌝ ∗ held c (ms0 a t) (ms1 a t) (ms2 a t) (ms3 a t) (T0 a) (T1 a)
          (iblk a m ρ c (0 : Fin 4) t) (iblk a m ρ c (1 : Fin 4) t) (iblk a m ρ c (2 : Fin 4) t) (after3 a m ρ c t) s0' s1') -∗ K ⟨⟩))
      ⊢ wp frame (wpE (defs₀ (F := F)) Variants.none c none) Set.univ (bodyAt a t) K := by
  have hv : nvW (F := F) (T1 a) = T1 a (ix1 0) := nvW_eq _
  have hiff := used_iff (crd a t 1) (T1 a (ix1 0)) g.le
  have key : ∀ p : Fin (cfgA a).N, p.val + 1 = t.val + 1 → p = t := fun p hp => Fin.ext (by omega)
  by_cases hu : used a t
  · have h2 : k0_cond2 (crd a t) (nvW (F := F) (T1 a)) = 1#1 := by rw [hv, cond2_iff]; exact hiff.mpr hu
    have h3 : ¬ k0_cond3 (crd a t) (nvW (F := F) (T1 a)) = 1#1 := by rw [hv, cond3_iff]; exact fun h => h (hiff.mpr hu)
    have ha : after3 a m ρ c t = k0_pay3 (iblk a m ρ c (0 : Fin 4) t) (k0_pay1 (iblk a m ρ c (1 : Fin 4) t)) (k0_pay2 (iblk a m ρ c (2 : Fin 4) t)) := if_pos hu
    rw [ha]
    by_cases hn : newW (F := F) (T0 a) (T1 a) (crd a t) = 1#1
    · refine .trans ?_ (run_new c (crd a t) (ms0 a t) (hs0 a t) (ms1 a t) (hs1 a t) (ms2 a t) (hs2 a t) (ms3 a t) (hs3 a t) (T0 a) (T1 a) (iblk a m ρ c (0 : Fin 4) t) (iblk a m ρ c (1 : Fin 4) t) (iblk a m ρ c (2 : Fin 4) t) hn h2 h3 d s0 s1 K)
      iintro ⟨H, Hk⟩
      isplitl [H]; · iexact H
      iintro H
      iapply Hk
      iexists _, _
      isplitr; swap
      · iexact H
      · ipureintro; intro p hp _; rw [key p hp]; exact ⟨rfl, rfl⟩
    · have hne : (crd a t 1).val ≠ 0 ∧ teW (F := F) (T0 a) (crd a t) = tePrevW (F := F) (T0 a) (crd a t) := by
        have hz := zero_iff (crd a t 1)
        rw [newW, bit_cases, hv, hiff, hz, ne_iff] at hn
        by_contra hc
        refine hn ⟨hu, ?_⟩
        by_cases h0 : (crd a t 1).val = 0
        · exact .inl h0
        · exact .inr fun he => hc ⟨h0, he⟩
      obtain ⟨e0, e1⟩ := casts_same a m ρ g c t hu hne.1 hne.2 s0 s1 hs
      rw [← e0, ← e1]
      refine .trans ?_ (run_same c (crd a t) (ms0 a t) (hs0 a t) (ms1 a t) (hs1 a t) (ms2 a t) (hs2 a t) (ms3 a t) (hs3 a t) (T0 a) (T1 a) (iblk a m ρ c (0 : Fin 4) t) (iblk a m ρ c (1 : Fin 4) t) (iblk a m ρ c (2 : Fin 4) t) hn h2 h3 d s0 s1 K)
      iintro ⟨H, Hk⟩
      isplitl [H]; · iexact H
      iintro H
      iapply Hk
      iexists _, _
      isplitr; swap
      · iexact H
      · ipureintro; intro p hp _; rw [key p hp]; exact ⟨e0, e1⟩
  · have h2 : ¬ k0_cond2 (crd a t) (nvW (F := F) (T1 a)) = 1#1 := by rw [hv, cond2_iff]; exact fun h => hu (hiff.mp h)
    have h3 : k0_cond3 (crd a t) (nvW (F := F) (T1 a)) = 1#1 := by rw [hv, cond3_iff]; exact fun h => hu (hiff.mp h)
    have hn : ¬ newW (F := F) (T0 a) (T1 a) (crd a t) = 1#1 := by rw [newW, bit_cases, hv, hiff]; exact fun h => hu h.1
    have ha : after3 a m ρ c t = k0_pay4 := if_neg hu
    rw [ha]
    refine .trans ?_ (run_unused c (crd a t) (ms0 a t) (hs0 a t) (ms1 a t) (hs1 a t) (ms2 a t) (hs2 a t) (ms3 a t) (hs3 a t) (T0 a) (T1 a) (iblk a m ρ c (0 : Fin 4) t) (iblk a m ρ c (1 : Fin 4) t) (iblk a m ρ c (2 : Fin 4) t) hn h2 h3 d s0 s1 K)
    iintro ⟨H, Hk⟩
    isplitl [H]; · iexact H
    iintro H
    iapply Hk
    iexists _, _
    isplitr; swap
    · iexact H
    · ipureintro; intro p hp hp'; rw [key p hp] at hp'; exact absurd hp' hu

set_option maxHeartbeats 4000000 in
include g in
/-- The body obligation at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 4) t d))
        ∗ (∃ d, owns (c : Thread nD τ) (ms1 a t) fullShare ((dats a m ρ 0 c).before (1 : Fin 4) t d))
        ∗ (∃ d, owns (c : Thread nD τ) (ms2 a t) fullShare ((dats a m ρ 0 c).before (2 : Fin 4) t d))
        ∗ (∃ d, owns (c : Thread nD τ) (ms3 a t) fullShare ((dats a m ρ 0 c).before (3 : Fin 4) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [live3 a]
  simp only [before0, before1, before2]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  iintro ⟨⟨%s0, %s1, %hs, HS0, HS1, HT0, HT1⟩, Ho, ⟨%d0, H0⟩, ⟨%d1, H1⟩, ⟨%d2, H2⟩, ⟨%d3, H3⟩⟩
  iapply (run_point a m ρ g c t _ s0 s1 hs _)
  isplitl [HS0 HS1 HT0 HT1 H0 H1 H2 H3]
  · iapply held_intro
    isplitl [H0]; · iexact H0
    isplitl [H1]; · iexact H1
    isplitl [H2]; · iexact H2
    isplitl [H3]; · iexact H3
    isplitl [HS0]; · iexact HS0
    isplitl [HS1]; · iexact HS1
    isplitl [HT0]; · iexact HT0
    iexact HT1
  iintro ⟨%s0', %s1', %hs', H⟩
  ihave ⟨H0, H1, H2, H3, HS0, HS1, HT0, HT1⟩ := held_elim $$ H
  isplitl [HS0 HS1 HT0 HT1]
  · iexists s0', s1'
    isplitr; · ipureintro; exact hs'
    isplitl [HS0]; · iexact HS0
    isplitl [HS1]; · iexact HS1
    isplitl [HT0]; · iexact HT0
    iexact HT1
  isplitl [Ho]; · iexact Ho
  isplitl [H0]; · iexact H0
  isplitl [H1]; · iexact H1
  isplitl [H2]; · iexact H2
  iexact H3

include g in
/-- The library's body obligation, at every point. -/
theorem body_obligation (c : Dev nD) : BodyObligation (dats a m ρ 0 c) (defs₀ (F := F)) Variants.none () Set.univ := fun t => by
  rw [bigSep_W0]
  exact sound_body a m ρ g c t

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

abbrev EP : Emb (UR sig nD τ) 𝕄 := emb₁

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  iexists a0, a1
  isplitr; · ipureintro; intro t ht; exact absurd ht (Nat.succ_ne_zero _)
  isplitl [HS0]; · iexact HS0
  isplitl [HS1]; · iexact HS1
  isplitl [HT0]; · iexact HT0
  iexact HT1

/-- at the last point it gives the scratch buffers back, the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, %a1, -, HS0, HS1, -, -⟩
  isplitr; · iempintro
  isplitl [HS0]
  · iexists a0; iexact HS0
  iexists a1; iexact HS1

/-- Every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

variable (hm : ∀ (c : Dev nD) (j : Fin 2), m ((c : Thread nD τ).loc (pre0.ref j)) = a.1 j)

set_option backward.isDefEq.respectTransparency.types false in
set_option maxHeartbeats 4000000 in
include g hm in
/-- From any memory with zero counters whose tables are `a`'s: every weakly fair execution terminates, and every final
    state has each array at the computed contents and every counter at zero. -/
theorem run_main_quiescent : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ g c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-! ## The array -/

/-- A tile's half of the output: computed from its rows and its expert's weights if it is in use, zeros otherwise. -/
def tile (c : Dev nD) (n : Fin 80) (j : Fin 2) : S512x512.Idx → Elt F .bf16 :=
  if n.val < (T1 a (ix1 0)).toNat then
    k0_pay3 (xB (m ((c : Thread nD τ).loc main_arg0)) n)
      (k0_pay1 (wB (m ((c : Thread nD τ).loc main_arg1)) ⟨(T0 a (ix1 n)).toNat, g.te _⟩ j))
      (k0_pay2 (wB (m ((c : Thread nD τ).loc main_arg2)) ⟨(T0 a (ix1 n)).toNat, g.te _⟩ j))
  else k0_pay4

theorem after3_eq (c : Dev nD) (t : Fin (cfgA a).N) : after3 a m ρ c t = tile a m g c (crd a t 1) (crd a t 0) := by
  unfold after3 tile
  by_cases h : used a t
  · rw [if_pos h, if_pos h, iblk0_eq a m ρ g c t (crd a t 1) (by have : (crd a t 1).val < _ := h; omega), iblk1_eq a m ρ g, iblk2_eq a m ρ g]
  · rw [if_neg h, if_neg h]

/-- What the output array ends with. -/
def result (c : Dev nD) : S40960x1024.Idx → Elt F .bf16 := fun x =>
  tile a m g c ⟨(x 0).val / 512, by have : (x 0).val < 40960 := (x 0).isLt; omega⟩ ⟨(x 1).val / 512, by have : (x 1).val < 1024 := (x 1).isLt; omega⟩
    (ix2 ⟨(x 0).val % 512, Nat.mod_lt _ (by decide)⟩ ⟨(x 1).val % 512, Nat.mod_lt _ (by decide)⟩)

theorem result_at (c : Dev nD) (x : S40960x1024.Idx) (n : Fin 80) (j : Fin 2) (y : S512x512.Idx) (h0 : (x 0).val = n.val * 512 + (y 0).val)
    (h1 : (x 1).val = j.val * 512 + (y 1).val) : result a m g c x = tile a m g c n j y := by
  have l0 : (y 0).val < 512 := (y 0).isLt
  have l1 : (y 1).val < 512 := (y 1).isLt
  unfold result
  have a0 : (x 0).val / 512 = n.val := by omega
  have a1 : (x 1).val / 512 = j.val := by omega
  have a2 : (ix2 ⟨(x 0).val % 512, Nat.mod_lt _ (by decide)⟩ ⟨(x 1).val % 512, Nat.mod_lt _ (by decide)⟩ : S512x512.Idx) = y := by
    funext d
    apply Fin.ext
    fin_cases d
    · show (x 0).val % 512 = (y 0).val; omega
    · show (x 1).val % 512 = (y 1).val; omega
  simp only [a0, a1, a2]

theorem coords_at : ∀ (n : Fin 80) (j : Fin 2), ∃ t : Fin grid0.N, (grid0.coords t 1).val = n.val ∧ (grid0.coords t 0).val = j.val := by
  have h : ∀ (n : Fin 80) (j : Fin 2), ∃ h : j.val * 80 + n.val < grid0.N, (grid0.coords ⟨j.val * 80 + n.val, h⟩ 1).val = n.val ∧ (grid0.coords ⟨j.val * 80 + n.val, h⟩ 0).val = j.val := by
    decide +kernel
  exact fun n j => (h n j).elim fun h e => ⟨_, e⟩

theorem step_ne : ∀ (t : Fin grid0.N) (h : t.val + 1 < grid0.N), (grid0.coords ⟨t.val + 1, h⟩ 1).val ≠ (grid0.coords t 1).val := by decide +kernel

theorem flush3 (t : Fin (cfgA a).N) : ((cfgA a).win (3 : Fin 4)).flush t = true := by
  rw [Window.flush_eq_flushF]
  unfold Window.flushF
  rw [Bool.and_eq_true, Bool.or_eq_true, decide_eq_true_eq, decide_eq_true_eq]
  refine ⟨rfl, ?_⟩
  by_cases h : t.val + 1 = (cfgA a).N
  · exact .inl h
  · have h' : t.val + 1 < (cfgA a).N := lt_of_le_of_ne t.isLt h
    refine .inr ⟨h', (0 : Fin 2), ?_⟩
    show cc0_transform_3 (grid0.coords ⟨t.val + 1, h'⟩) 0 ≠ cc0_transform_3 (grid0.coords t) 0
    rw [tr3_eq, tr3_eq]
    exact step_ne t h'

theorem covers3 : ((cfgA a).win (3 : Fin 4)).Covers := by
  refine ⟨fun d => by revert d; exact (by decide : ∀ d : Fin 2, 0 < S512x512.size d), fun β => ?_⟩
  have k0 : (β (0 : Fin 2)).val < 80 := lt_of_lt_of_eq (β (0 : Fin 2)).isLt (show (S40960x1024.size 0 + S512x512.size 0 - 1) / S512x512.size 0 = 80 by decide)
  have k1 : (β (1 : Fin 2)).val < 2 := lt_of_lt_of_eq (β (1 : Fin 2)).isLt (show (S40960x1024.size 1 + S512x512.size 1 - 1) / S512x512.size 1 = 2 by decide)
  obtain ⟨t, e1, e0⟩ := coords_at ⟨_, k0⟩ ⟨_, k1⟩
  refine ⟨t, flush3 a t, fun d => ⟨?_, .inl rfl⟩⟩
  show cc0_transform_3 (grid0.coords t) d = β d
  rw [tr3_eq]
  revert d
  exact fun d => by fin_cases d; exacts [e1, e0]

theorem arr_eq (c : Dev nD) : (dats a m ρ 0 c).arrAt (3 : Fin 4) (cfgA a).N = result a m g c := by
  refine (dats a m ρ 0 c).arrAt_eq_of_covers (3 : Fin 4) (result a m g c) (covers3 a) (fun t hf y => ?_)
  have e (d : Fin 2) : (((((cfgA a).win (3 : Fin 4)).rect t).emb y) d : ℕ) = cc0_transform_3 (crd a t) d * 512 + (y d).val := by
    refine (ValueKit.rect_emb_unit_val _ _ _ y d).trans ?_
    revert d; exact fun d => by fin_cases d <;> rfl
  have e0 : (((((cfgA a).win (3 : Fin 4)).rect t).emb y) (0 : Fin 2) : ℕ) = (crd a t 1).val * 512 + (y (0 : Fin 2)).val := by
    rw [e, tr3_eq]; rfl
  have e1 : (((((cfgA a).win (3 : Fin 4)).rect t).emb y) (1 : Fin 2) : ℕ) = (crd a t 0).val * 512 + (y (1 : Fin 2)).val := by
    rw [e, tr3_eq]; rfl
  exact (congrFun (after3_eq a m ρ g c t) y).trans (result_at a m g c _ _ _ y e0 e1).symm

include g hm in
/-- The run: the output array is `result`, the arguments and the tables are as at the start, every counter is zero. -/
theorem run : θ_run (defs (F := F)) (onTc (τ := τ) (main (F := F))) ⟨m, fun _ => 0, ρ⟩ (fun r => (∀ c : Dev nD,
      r.2.mem ((c.tc : Thread nD τ).loc main_v0) = result a m g c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 (3 : Fin 4)).trans (arr_eq a m ρ g c), ((h.1 c).1 (0 : Fin 4)).trans ((dats a m ρ 0 c).arrAt_in (0 : Fin 4) rfl _),
      ((h.1 c).1 (1 : Fin 4)).trans ((dats a m ρ 0 c).arrAt_in (1 : Fin 4) rfl _), ((h.1 c).1 (2 : Fin 4)).trans ((dats a m ρ 0 c).arrAt_in (2 : Fin 4) rfl _),
      ((h.1 c).2 0).trans (hm c 0).symm, ((h.1 c).2 1).trans (hm c 1).symm⟩, h.2⟩) (run_main_quiescent a m ρ g hm)

end Cert.Kernel2.Tiles

end
-- ==== Proof.UpValue.lean ====
/- Hand-written. The expert up-projection: its reference read at an index, the kernel's tiles read at an index, their
   equality, and the run at each of the two instances. -/
module

public import proofs.«01_k».proof.Proof.Gates
public import proofs.«01_k».proof.Proof.UpLaunch
public import proofs.«01_k».proof.Proof.Gen.Kernel2Ideal

@[expose] public section

set_option maxRecDepth 16384

noncomputable section

namespace Cert.Reference2Ideal.Value

open Cert.Reference2Ideal Cert.Reference2Ideal.Gen Idealize.ShloMosaic Idealize.ShloMosaic.TcCoe Idealize.SL.Sem
open Cert.Tiles

variable (x : FVec Ideal S40960x2048 .f32) (w wg wu : FVec Ideal S16x2048x1024 .f32) (te : IVec S80 32) (nv : IVec S1 32)

/-- Every row's product with every expert's weights. -/
def prod : FVec Ideal S40960x16x1024 .f32 :=
  Host.dotGeneral dot_S40960x2048_S16x2048x1024_S40960x16x1024_1_1_0_02_n_n none x w

theorem prod_at (r : Fin 40960) (e : Fin 16) (f : Fin 1024) : prod x w (ix3 r e f) = ∑ d : Fin 2048, x (ix2 r d) * w (ix3 e d f) := by
  pointwise [prod]

/-- An array times its logistic function. -/
def silu (a : FVec Ideal S40960x16x1024 .f32) : FVec Ideal S40960x16x1024 .f32 :=
  mulf a (Host.divf (broadcastInDim S40960x16x1024 ![] bcast_S_S40960x16x1024 (constant S_ .f32 0x3F800000#32))
    (addf (broadcastInDim S40960x16x1024 ![] bcast_S_S40960x16x1024 (constant S_ .f32 0x3F800000#32)) (Host.exp (Host.negf a))))

theorem silu_at (a) (r : Fin 40960) (e : Fin 16) (f : Fin 1024) :
    silu a (ix3 r e f) = a (ix3 r e f) * Ideal.logistic (a (ix3 r e f)) := by
  pointwise [silu]
  rfl

/-- The gates, the same for every hidden unit. -/
def spread (t : FVec Ideal S40960x16 .f32) : FVec Ideal S40960x16x1024 .f32 :=
  broadcastInDim S40960x16x1024 ![0, 1, 2] bcast_S40960x16x1_S40960x16x1024_0_1_2
    (broadcastInDim S40960x16x1 ![0, 1] bcast_S40960x16_S40960x16x1_0_1 t)

theorem spread_at (t) (r : Fin 40960) (e : Fin 16) (f : Fin 1024) : spread t (ix3 r e f) = t (ix2 r e) := by
  pointwise [spread]

/-- The sum over the experts. -/
def summed (h : FVec Ideal S40960x16x1024 .f32) : FVec Ideal S40960x1024 .bf16 :=
  truncf .bf16 (Host.reduceAdd h (constant S_ .f32 0x00000000#32) reducesTo_S40960x16x1024_S40960x1024_d1 h_S_) bitsLt_bf16_f32

theorem summed_at (h) (r : Fin 40960) (f : Fin 1024) : summed h (ix2 r f) = ∑ e : Fin 16, h (ix3 r e f) := by
  pointwise [summed]

/-- The reference's result, in stages. -/
def hidden : FVec Ideal S40960x1024 .bf16 :=
  summed (mulf (mulf (silu (prod x wg)) (prod x wu)) (spread (gates te nv)))

/-- One hidden unit of one row at one expert. -/
def unit (r : Fin 40960) (e : Fin 16) (f : Fin 1024) : EReal :=
  (∑ d : Fin 2048, x (ix2 r d) * wg (ix3 e d f)) * Ideal.logistic (∑ d : Fin 2048, x (ix2 r d) * wg (ix3 e d f))
    * ∑ d : Fin 2048, x (ix2 r d) * wu (ix3 e d f)

theorem hidden_at (g : Good te nv) (n : Fin 80) (i : Fin 512) (f : Fin 1024) :
    hidden x wg wu te nv (ix2 ⟨n.val * 512 + i.val, by omega⟩ f)
      = if n.val < (nv (ix1 0)).toNat then unit x wg wu ⟨n.val * 512 + i.val, by omega⟩ ⟨(te (ix1 n)).toNat, g.te n⟩ f else 0 := by
  unfold hidden
  rw [summed_at]
  refine (Finset.sum_congr rfl fun e _ => ?_).trans
    (sum_gated _ _ fun e => unit x wg wu ⟨n.val * 512 + i.val, by omega⟩ e f)
  show silu (prod x wg) _ * prod x wu _ * spread (gates te nv) _ = _
  rw [silu_at, prod_at, prod_at, spread_at, gates_at te nv g]
  rfl

end Cert.Reference2Ideal.Value

namespace Cert.Kernel2.Tiles

open Cert.Kernel2 Cert.Kernel2.Gen
open Idealize.ShloMosaic Idealize.ShloMosaic.TcCoe Idealize.SL.Sem
open Cert.Tiles Cert.Reference2Ideal.Value

section Run

variable {F : FTy → Type} [FloatOps F] (m : (ℓ : Loc nD τ sig) → Buf (Elt F) ℓ) (ρ : Dev nD → PrngReg)

/-- The tables a memory holds. -/
def tables (c : Dev nD) : pre0.Contents (Elt F) := fun j => m ((c.tc : Thread nD τ).loc (pre0.ref j))

/-- Tables in range, as the launch takes them. -/
def admitted (g : Good (tables m 0 0) (tables m 0 1)) : (pcfg0 (F := F)).Adm := ⟨tables m 0, ok_of_good _ g⟩

/-- The run from a memory whose tables are in range. -/
theorem run_of_good (g : Good (tables m 0 0) (tables m 0 1)) :
    θ_run (defs (F := F)) (onTc (τ := τ) (main (F := F))) ⟨m, fun _ => 0, ρ⟩ (fun r => (∀ c : Dev nD,
      r.2.mem ((c.tc : Thread nD τ).loc main_v0) = result (admitted m g) m g c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run (admitted m g) m ρ g fun c j => congrFun (congrArg (tables m) (Subsingleton.elim c 0)) j

end Run

section Value

variable (xt : FVec Ideal S512x2048 .f32) (wg wu : FVec Ideal S1x2048x512 .f32)

theorem pay3_at (i f : Fin 512) : k0_pay3 (F := Ideal) xt (k0_pay1 (F := Ideal) wg) (k0_pay2 (F := Ideal) wu) (ix2 i f)
    = (∑ d : Fin 2048, xt (ix2 i d) * wg (ix3 0 d f)) * Ideal.logistic (∑ d : Fin 2048, xt (ix2 i d) * wg (ix3 0 d f))
      * ∑ d : Fin 2048, xt (ix2 i d) * wu (ix3 0 d f) := by
  pointwise [k0_pay3, k0_pay1, k0_pay2]

theorem pay4_at (i f : Fin 512) : k0_pay4 (F := Ideal) (ix2 i f) = (0 : EReal) := by
  pointwise [k0_pay4]

variable (a : (pcfg0 (F := Ideal)).Adm) (m : (ℓ : Loc nD τ sig) → Buf (Elt Ideal) ℓ) (g : Good (T0 a) (T1 a))

/-- The output array is the reference's. -/
theorem result_eq (c : Dev nD) : result a m g c = hidden (m ((c : Thread nD τ).loc main_arg0)) (m ((c : Thread nD τ).loc main_arg1))
    (m ((c : Thread nD τ).loc main_arg2)) (T0 a) (T1 a) := by
  funext y
  obtain ⟨r, q, rfl⟩ : ∃ r q, y = ix2 r q := ⟨y 0, y 1, by funext i; fin_cases i <;> rfl⟩
  obtain ⟨n, i, rfl⟩ : ∃ (n : Fin 80) (i : Fin 512), r = ⟨n.val * 512 + i.val, by omega⟩ :=
    ⟨⟨r.val / 512, by omega⟩, ⟨r.val % 512, by omega⟩, Fin.ext (by dsimp only; omega)⟩
  obtain ⟨j, k, rfl⟩ : ∃ (j : Fin 2) (k : Fin 512), q = ⟨j.val * 512 + k.val, by omega⟩ :=
    ⟨⟨q.val / 512, by omega⟩, ⟨q.val % 512, by omega⟩, Fin.ext (by dsimp only; omega)⟩
  rw [result_at a m g c _ n j (ix2 i k) rfl rfl, hidden_at _ _ _ _ _ g]
  unfold tile
  by_cases h : n.val < (T1 a (ix1 0)).toNat
  · rw [if_pos h, if_pos h]
    exact pay3_at _ _ _ i k
  · rw [if_neg h, if_neg h]
    exact pay4_at i k

end Value

end Cert.Kernel2.Tiles

namespace Cert.Kernel2Ideal.Tiles

open Cert.Kernel2Ideal Cert.Kernel2Ideal.Gen
open Idealize.ShloMosaic Idealize.ShloMosaic.TcCoe Idealize.SL.Sem
open Cert.Tiles Cert.Reference2Ideal.Value

set_option maxHeartbeats 4000000 in
/-- The two printed texts define the same bodies. -/
theorem defs₀_eq : Cert.Kernel2Ideal.defs₀ (F := Ideal) = Cert.Kernel2.defs₀ (F := Ideal) := by
  unfold Cert.Kernel2Ideal.defs₀ Cert.Kernel2.defs₀
  refine congrArg Defs.onTc (funext fun p => funext fun x => ?_)
  obtain ⟨_ | p, h⟩ := p
  · rfl
  · exact absurd h (by omega)

set_option maxHeartbeats 4000000 in
theorem defs_eq : Cert.Kernel2Ideal.defs (F := Ideal) = Cert.Kernel2.defs (F := Ideal) :=
  congrArg (Pipeline.defs (Cert.Kernel2.pcfgs (F := Ideal))) defs₀_eq

variable (m : (ℓ : Loc nD τ sig) → Buf (Elt Ideal) ℓ) (ρ : Dev nD → PrngReg)

set_option maxHeartbeats 4000000 in
/-- The second text's run: the output array is the reference's of the arguments. -/
theorem run (g : Good (m (((0 : Dev nD).tc : Thread nD τ).loc main_arg3)) (m (((0 : Dev nD).tc : Thread nD τ).loc main_arg4))) :
    θ_run (defs (F := Ideal)) (onTc (τ := τ) (main (F := Ideal))) ⟨m, fun _ => 0, ρ⟩ (fun r => (∀ c : Dev nD,
      r.2.mem ((c.tc : Thread nD τ).loc main_v0) = hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  refine (θ_run (Cert.Kernel2.defs (F := Ideal)) _ _).mono (fun r h => ⟨fun c => ⟨(h.1 c).1.trans ?_, (h.1 c).2⟩, h.2⟩)
    (Cert.Kernel2.Tiles.run_of_good (F := Ideal) m ρ g)
  obtain rfl : c = 0 := Subsingleton.elim _ _
  exact Cert.Kernel2.Tiles.result_eq _ m g 0

end Cert.Kernel2Ideal.Tiles

end
-- ==== Proof.DownRun.lean ====
/- Hand-written. The body of the expert down-projection, run on its three control paths, at any tables and over any
   arithmetic. -/
module

public import proofs.«01_k».proof.Proof.Gen.Kernel3.Skeleton
public import proofs.«01_k».proof.Proof.Gen.Kernel3.Launch
public import proofs.«01_k».proof.Proof.Tiles
public import Idealize.ShloMosaic.Lib.Pipeline.Quiescent
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Tactic
public import Idealize.ShloMosaic.Lib.WritesUnit
public import Idealize.ShloMosaic.Lib.VecWindow

@[expose] public section

set_option maxRecDepth 16384
set_option Elab.async false

noncomputable section

namespace Cert.Kernel3.Tiles

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Tiles

variable {F : FTy → Type} [FloatOps F]

local notation "𝕄" => MT nD τ sig Unit (Elt F) ℕ (UR sig nD τ) ℕ

/-- The two tables and the scratch buffer, whole. -/
abbrev teM : Memref sig .tc .smem S80 .i32 := Memref.whole main_arg2
abbrev nvM : Memref sig .tc .smem S1 .i32 := Memref.whole main_arg3
abbrev wM : Memref sig .tc .vmem S1024x2048 .bf16 := Memref.whole cc0_scratch0

/-- The number of tiles in use, as the body reads it. -/
abbrev nvW (T1 : S1.Idx → Elt F .i32) : BitVec 32 :=
  View.readAt (Elt F) nvM.view (Rect.unit (s := S1) ![0] S1.size inb_S1_S1_0).toLoadRect T1 (Shape.Idx.first (numel1_S1.symm ▸ Nat.one_pos))
/-- The tile's expert, as the body reads it. -/
abbrev teW (T0 : S80.Idx → Elt F .i32) (i : grid0.Coords) : BitVec 32 :=
  View.readAt (Elt F) teM.view (Rect.unit (s := S80) (k0_off1 i) S1.size (k0_off1_inb i)).toLoadRect T0 (Shape.Idx.first (numel1_S1.symm ▸ Nat.one_pos))
/-- The previous tile's expert, as the body reads it. -/
abbrev tePrevW (T0 : S80.Idx → Elt F .i32) (i : grid0.Coords) : BitVec 32 :=
  View.readAt (Elt F) teM.view (Rect.unit (s := S80) (k0_off2 i) S1.size (k0_off2_inb i)).toLoadRect T0 (Shape.Idx.first (numel1_S1.symm ▸ Nat.one_pos))

/-- The condition under which the body casts the weights of a new expert. -/
abbrev newW (T0 : S80.Idx → Elt F .i32) (T1 : S1.Idx → Elt F .i32) (i : grid0.Coords) : BitVec 1 :=
  Scalar.cmpi .ne (Scalar.extui (Scalar.andi (Scalar.cmpi .slt (BitVec.ofNat 32 (i 1).val) (nvW T1))
    (Scalar.ori (Scalar.cmpi .eq (BitVec.ofNat 32 (i 1).val) 0#32) (Scalar.cmpi .ne (teW T0 i) (tePrevW T0 i))))) 0#32

/-- Reading a whole buffer is its contents. -/
theorem read_whole {Val : EltTy → Type} {κ : Kind} (b : Ref sig κ) (f : b.ty.Contents Val) :
    (Memref.whole b : Memref sig κ _ _ _).view.read Val f = f := rfl

/-- A store to the whole of a scratch buffer leaves what was stored, -/
theorem w_store (f w : S1024x2048.Idx → Elt F .bf16) :
    wM.view.writes (Elt F) f [⟨Rect.unit ![0, 0] S1024x2048.size inb_S1024x2048_S1024x2048_0_0, w⟩] = w :=
  (read_whole cc0_scratch0 _).symm.trans (read_store_full wM.view f inb_S1024x2048_S1024x2048_0_0 w [] (by decide))

/-- and a load of it reads what it holds. -/
theorem w_load (f : S1024x2048.Idx → Elt F .bf16) :
    wM.view.readAt (Elt F) (Rect.unit ![0, 0] S1024x2048.size inb_S1024x2048_S1024x2048_0_0).toLoadRect f = f :=
  View.readAt_full wM.view f inb_S1024x2048_S1024x2048_0_0

section Runs

variable (c : Dev nD) (i : grid0.Coords)
  (arg4 : Memref sig .tc .vmem S512x1024 .bf16) (harg4 : arg4.IsWhole) (arg5 : Memref sig .tc .vmem S1x1024x2048 .f32) (harg5 : arg5.IsWhole)
  (arg6 : Memref sig .tc .vmem S512x2048 .f32) (harg6 : arg6.IsWhole)
  (T0 : S80.Idx → Elt F .i32) (T1 : S1.Idx → Elt F .i32)
  (x0 : S512x1024.Idx → Elt F .bf16) (x1 : S1x1024x2048.Idx → Elt F .f32)

/-- What the body holds: the two blocks, the tables, the output block and the scratch buffer. -/
def held (d : S512x2048.Idx → Elt F .f32) (s0 : S1024x2048.Idx → Elt F .bf16) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (teM.view.loc (c : Thread nD τ) ↦{fullShare.right} T0)
    ∗ (nvM.view.loc (c : Thread nD τ) ↦{fullShare.right} T1)
    ∗ owns (c : Thread nD τ) arg6 fullShare d
    ∗ (wM.view.loc (c : Thread nD τ) ↦{fullShare} s0))

/-- The body at this point, on the given buffers. -/
abbrev body := cc0_moe_down (F := F) i teM (Memref.isWhole_whole _) nvM (Memref.isWhole_whole _) arg4 harg4 arg5 harg5 arg6 harg6
  wM (Memref.isWhole_whole _)

set_option maxHeartbeats 8000000 in
/-- A tile in use whose expert is new: its weights are cast, then the tile is computed. -/
theorem run_new (hnew : newW T0 T1 i = 1#1) (h2 : k0_cond2 i (nvW T1) = 1#1) (h3 : ¬ k0_cond3 i (nvW T1) = 1#1)
    (d : S512x2048.Idx → Elt F .f32) (s0 : S1024x2048.Idx → Elt F .bf16) (K : PUnit → sProp 𝕄) :
    iprop(held c arg4 arg5 arg6 T0 T1 x0 x1 d s0
      ∗ (held c arg4 arg5 arg6 T0 T1 x0 x1 (k0_pay2 x0 (k0_pay1 x1)) (k0_pay1 x1) -∗ K ⟨⟩))
      ⊢ wp frame (wpE (defs₀ (F := F)) Variants.none c none) Set.univ (body i arg4 harg4 arg5 harg5 arg6 harg6) K := by
  unfold held owns body
  rw [cc0_moe_down_eq_skeleton]; unfold cc0_moe_down_skel
  iintro ⟨⟨H0, H1, HT0, HT1, ⟨%f2, -, HO2⟩, HS0⟩, Hk⟩
  have hS0 : wM.IsWhole := Memref.isWhole_whole _
  have hT0 : teM.IsWhole := Memref.isWhole_whole _
  have hT1 : nvM.IsWhole := Memref.isWhole_whole _
  sl_exec! (disch := first | (guard_target = Scalar.cmpi = _; exact hnew) | (guard_target = k0_cond2 _ _ = _; exact h2) | (guard_target = ¬(k0_cond3 _ _ = _); exact h3))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      delta run_new.sl.HO2_1
      refine (read_store_full _ _ _ _ _ (by decide)).trans ?_
      delta run_new.sl.v20 View.readCov
      rw [w_load]
      delta run_new.sl.HS0_1
      rw [w_store, load_full, load_full]
  delta run_new.sl.HS0_1
  rw [w_store, load_full]
  iexact HS0

set_option maxHeartbeats 8000000 in
/-- A tile in use of the expert already cast: the tile is computed from the weights held. -/
theorem run_same (hnew : ¬ newW T0 T1 i = 1#1) (h2 : k0_cond2 i (nvW T1) = 1#1) (h3 : ¬ k0_cond3 i (nvW T1) = 1#1)
    (d : S512x2048.Idx → Elt F .f32) (s0 : S1024x2048.Idx → Elt F .bf16) (K : PUnit → sProp 𝕄) :
    iprop(held c arg4 arg5 arg6 T0 T1 x0 x1 d s0
      ∗ (held c arg4 arg5 arg6 T0 T1 x0 x1 (k0_pay2 x0 s0) s0 -∗ K ⟨⟩))
      ⊢ wp frame (wpE (defs₀ (F := F)) Variants.none c none) Set.univ (body i arg4 harg4 arg5 harg5 arg6 harg6) K := by
  unfold held owns body
  rw [cc0_moe_down_eq_skeleton]; unfold cc0_moe_down_skel
  iintro ⟨⟨H0, H1, HT0, HT1, ⟨%f2, -, HO2⟩, HS0⟩, Hk⟩
  have hS0 : wM.IsWhole := Memref.isWhole_whole _
  have hT0 : teM.IsWhole := Memref.isWhole_whole _
  have hT1 : nvM.IsWhole := Memref.isWhole_whole _
  sl_exec! (disch := first | (guard_target = ¬(Scalar.cmpi = _); exact hnew) | (guard_target = k0_cond2 _ _ = _; exact h2) | (guard_target = ¬(k0_cond3 _ _ = _); exact h3))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      delta run_same.sl.HO2_1
      refine (read_store_full _ _ _ _ _ (by decide)).trans ?_
      rw [w_load, load_full]
  iexact HS0

set_option maxHeartbeats 8000000 in
/-- A tile not in use: zeros. -/
theorem run_unused (hnew : ¬ newW T0 T1 i = 1#1) (h2 : ¬ k0_cond2 i (nvW T1) = 1#1) (h3 : k0_cond3 i (nvW T1) = 1#1)
    (d : S512x2048.Idx → Elt F .f32) (s0 : S1024x2048.Idx → Elt F .bf16) (K : PUnit → sProp 𝕄) :
    iprop(held c arg4 arg5 arg6 T0 T1 x0 x1 d s0
      ∗ (held c arg4 arg5 arg6 T0 T1 x0 x1 k0_pay3 s0 -∗ K ⟨⟩))
      ⊢ wp frame (wpE (defs₀ (F := F)) Variants.none c none) Set.univ (body i arg4 harg4 arg5 harg5 arg6 harg6) K := by
  unfold held owns body
  rw [cc0_moe_down_eq_skeleton]; unfold cc0_moe_down_skel
  iintro ⟨⟨H0, H1, HT0, HT1, ⟨%f2, -, HO2⟩, HS0⟩, Hk⟩
  have hS0 : wM.IsWhole := Memref.isWhole_whole _
  have hT0 : teM.IsWhole := Memref.isWhole_whole _
  have hT1 : nvM.IsWhole := Memref.isWhole_whole _
  sl_exec! (disch := first | (guard_target = ¬(Scalar.cmpi = _); exact hnew) | (guard_target = ¬(k0_cond2 _ _ = _); exact h2) | (guard_target = k0_cond3 _ _ = _; exact h3))
  sl_step
  iapply Hk
  isplitl [H0]; · iexact H0
  isplitl [H1]; · iexact H1
  isplitl [HT0]; · iexact HT0
  isplitl [HT1]; · iexact HT1
  isplitl [HO2]
  · iexists _; isplitr; swap
    · iexact HO2
    · ipureintro
      exact read_store_full _ _ _ _ _ (by decide)
  iexact HS0

end Runs

end Cert.Kernel3.Tiles

end
-- ==== Proof.Down.lean ====
/- Hand-written. The expert down-projection at any tables in range, over any arithmetic: what each grid point holds and
   leaves, the launch, and the array it ends with. -/
module

public import proofs.«01_k».proof.Proof.DownRun
public import Idealize.ShloMosaic.Lib.Claim
public import Idealize.ShloMosaic.Lib.Pipeline.ValueKit
public import Idealize.ShloMosaic.Adequacy
public import Idealize.ShloMosaic.Init

@[expose] public section

set_option maxRecDepth 16384
set_option Elab.async false

noncomputable section

namespace Cert.Kernel3.Tiles

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Tiles

variable {F : FTy → Type} [FloatOps F]

local notation "𝕄" => MT nD τ sig Unit (Elt F) ℕ (UR sig nD τ) ℕ

/-! ## The tables' words -/

theorem nvW_eq (T1 : S1.Idx → Elt F .i32) : nvW (F := F) T1 = T1 (ix1 0) :=
  congrArg T1 (funext fun a => Fin.ext (by fin_cases a; rfl))

theorem off1_val : ∀ i : grid0.Coords, k0_off1 i 0 = (i 1).val := by decide +kernel
theorem off2_val : ∀ i : grid0.Coords, k0_off2 i 0 = (i 1).val - 1 := by decide +kernel

theorem teW_eq (T0 : S80.Idx → Elt F .i32) (i : grid0.Coords) : teW (F := F) T0 i = T0 (ix1 (i 1)) :=
  congrArg T0 (funext fun a => Fin.ext (by fin_cases a; exact off1_val i))

theorem tePrevW_eq (T0 : S80.Idx → Elt F .i32) (i : grid0.Coords) (k : Fin 80) (hk : k.val = (i 1).val - 1) :
    tePrevW (F := F) T0 i = T0 (ix1 k) :=
  congrArg T0 (funext fun a => Fin.ext (by fin_cases a; exact (off2_val i).trans hk.symm))

theorem cond2_iff (i : grid0.Coords) (v : BitVec 32) : k0_cond2 i v = 1#1 ↔ Scalar.cmpi .slt (BitVec.ofNat 32 (i 1).val) v = 1#1 := bit_ne _
theorem cond3_iff (i : grid0.Coords) (v : BitVec 32) : k0_cond3 i v = 1#1 ↔ ¬ Scalar.cmpi .slt (BitVec.ofNat 32 (i 1).val) v = 1#1 := bit_not _

/-! ## The windows' block indices -/

theorem tr0_eq (pf : pre0.Contents (Elt F)) (h : Good (pf 0) (pf 1)) (i : grid0.Coords) :
    cc0_transform_0 inb_S1_S1_0 numel1_S1 pf i = ![min (i 1).val ((pf 1 (ix1 0) : BitVec 32).toNat - 1), 0] := by
  have e : pf.at 1 (Rect.unit (s := S1) ![0] S1.size inb_S1_S1_0) numel1_S1 = pf 1 (ix1 0) :=
    congrArg (pf 1) (funext fun a => Fin.ext (by fin_cases a; rfl))
  have := min_word (i 1) _ h.one_le h.le
  unfold cc0_transform_0
  rw [e]
  simp only [this]
  rfl

theorem tr1_eq (pf : pre0.Contents (Elt F)) (i : grid0.Coords) :
    cc0_transform_1 k0_off1_inb numel1_S1 pf i = ![(pf 0 (ix1 (i 1)) : BitVec 32).toNat, 0, (i 0).val] := by
  have e : pf.at 0 (Rect.unit (s := S80) (k0_off1 i) S1.size (k0_off1_inb i)) numel1_S1 = pf 0 (ix1 (i 1)) :=
    congrArg (pf 0) (funext fun a => Fin.ext (by fin_cases a; exact off1_val i))
  have e0 : (BitVec.ofNat 32 (i 0).val).toNat = (i 0).val := by
    rw [BitVec.toNat_ofNat]; exact Nat.mod_eq_of_lt (lt_trans (i 0).isLt (by decide))
  show ![(pf.at 0 (Rect.unit (s := S80) (k0_off1 i) S1.size (k0_off1_inb i)) numel1_S1 : BitVec 32).toNat, 0, (BitVec.ofNat 32 (i 0).val).toNat] = _
  rw [e, e0]

theorem tr2_eq : ∀ i : grid0.Coords, cc0_transform_2 i = ![(i 1).val, (i 0).val] := by decide +kernel

/-- A tile's rows are whole words. -/
theorem words : ∀ n : Fin 80, ∃ h : (∀ a, ((![n.val, 0] : Fin 2 → ℕ) a + 1) * S512x1024.size a ≤ S40960x1024.size a),
    (Rect.block (s := S40960x1024) S512x1024.size ![n.val, 0] h).WholeWords (EltTy.packing .bf16) := by
  decide +kernel

/-- Tables in range are admissible: every block they name is inside its array. -/
theorem ok_of_good (pf : pre0.Contents (Elt F)) (h : Good (pf 0) (pf 1)) : ok0 pf := by
  refine ⟨fun i => ?_, fun i => ⟨?_, .inl rfl⟩⟩
  · rw [tr0_eq pf h]
    have h1 := h.one_le
    have h2 := h.le
    obtain ⟨hb, hw⟩ := words ⟨min (i 1).val ((pf 1 (ix1 0) : BitVec 32).toNat - 1), by omega⟩
    exact ⟨hb, .inr hw⟩
  · rw [tr1_eq]
    have h1 := h.te (i 1)
    have h0 := (i 0).isLt
    intro a
    fin_cases a
    · show ((pf 0 (ix1 (i 1)) : BitVec 32).toNat + 1) * 1 ≤ 16; omega
    · show (0 + 1) * 1024 ≤ 1024; omega
    · show ((i 0).val + 1) * 2048 ≤ 2048
      have : (i 0).val < 1 := h0
      omega

/-! ## The blocks -/

variable (a : (pcfg0 (F := F)).Adm) (m : (ℓ : Loc nD τ sig) → Buf (Elt F) ℓ) (ρ : Dev nD → PrngReg)

abbrev cfgA : Pipeline.Cfg sig Λ₀ := cfg0 (F := F) a
abbrev pcs : Fin 1 → Pipeline.Cfg sig Λ₀ := Pipeline.pin (pcfgs (F := F)) fun _ => a
abbrev crd (t : Fin (cfgA a).N) : grid0.Coords := (cfgA a).grid.coords t

/-- Each window's staging buffer at a point, and that it is whole. -/
abbrev ms0 (t : Fin (cfgA a).N) : Memref sig .tc .vmem S512x1024 .bf16 := spec0_0.stage ((cfgA a).slots t (0 : Fin 3))
abbrev hs0 (t : Fin (cfgA a).N) : (ms0 a t).IsWhole := hstage0_0 (((cfgA a).slots t (0 : Fin 3)).cast nbuf0_0)
abbrev ms1 (t : Fin (cfgA a).N) : Memref sig .tc .vmem S1x1024x2048 .f32 := spec0_1.stage ((cfgA a).slots t (1 : Fin 3))
abbrev hs1 (t : Fin (cfgA a).N) : (ms1 a t).IsWhole := hstage0_1 (((cfgA a).slots t (1 : Fin 3)).cast nbuf0_1)
abbrev ms2 (t : Fin (cfgA a).N) : Memref sig .tc .vmem S512x2048 .f32 := spec0_2.stage ((cfgA a).slots t (2 : Fin 3))
abbrev hs2 (t : Fin (cfgA a).N) : (ms2 a t).IsWhole := hstage0_2 (((cfgA a).slots t (2 : Fin 3)).cast nbuf0_2)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- A tile's rows of the inputs. -/
def xB (A : S40960x1024.Idx → Elt F .bf16) (n : Fin 80) : S512x1024.Idx → Elt F .bf16 :=
  fun y => A (ix2 ⟨n.val * 512 + (y 0).val, by have := n.isLt; have : (y 0).val < 512 := (y 0).isLt; omega⟩ (y 1))
/-- An expert's weights. -/
def wB (A : S16x1024x2048.Idx → Elt F .f32) (e : Fin 16) : S1x1024x2048.Idx → Elt F .f32 :=
  fun y => A (ix3 e (y 1) (y 2))

abbrev T0 : S80.Idx → BitVec 32 := a.1 0
abbrev T1 : S1.Idx → BitVec 32 := a.1 1

variable (g : Good (T0 a) (T1 a))

/-- The expert of the tile at a point. -/
abbrev exp (t : Fin (cfgA a).N) : Fin 16 := ⟨(T0 a (ix1 (crd a t 1))).toNat, g.te _⟩
/-- A tile is in use. -/
abbrev used (t : Fin (cfgA a).N) : Prop := (crd a t 1).val < (T1 a (ix1 0)).toNat

include g in
theorem iblk0_eq (c : Dev nD) (t : Fin (cfgA a).N) (n : Fin 80) (hn : n.val = min (crd a t 1).val ((T1 a (ix1 0)).toNat - 1)) :
    iblk a m ρ c (0 : Fin 3) t = xB (m ((c : Thread nD τ).loc main_arg0)) n := by
  funext y
  refine congrArg (m ((c : Thread nD τ).loc main_arg0)) (funext fun d => Fin.ext ?_)
  refine (ValueKit.rect_emb_unit_val _ _ _ y d).trans ?_
  show (cc0_transform_0 inb_S1_S1_0 numel1_S1 a.1 (crd a t)) d * S512x1024.size d + (y d).val = _
  rw [tr0_eq a.1 g]
  fin_cases d
  · show min _ _ * 512 + _ = n.val * 512 + _
    rw [hn]; rfl
  · show 0 * 1024 + (y 1).val = (y 1).val; omega

theorem iblk1_eq (c : Dev nD) (t : Fin (cfgA a).N) :
    iblk a m ρ c (1 : Fin 3) t = wB (m ((c : Thread nD τ).loc main_arg1)) (exp a g t) := by
  funext y
  refine congrArg (m ((c : Thread nD τ).loc main_arg1)) (funext fun d => Fin.ext ?_)
  refine (ValueKit.rect_emb_unit_val _ _ _ y d).trans ?_
  show (cc0_transform_1 k0_off1_inb numel1_S1 a.1 (crd a t)) d * S1x1024x2048.size d + (y d).val = _
  rw [tr1_eq a.1]
  fin_cases d
  · show _ * 1 + (y 0).val = _
    have : (y 0).val < 1 := (y 0).isLt
    show (T0 a (ix1 (crd a t 1))).toNat * 1 + (y 0).val = (T0 a (ix1 (crd a t 1))).toNat
    omega
  · show 0 * 1024 + (y 1).val = (y 1).val; omega
  · show (crd a t 0).val * 2048 + (y 2).val = (y 2).val
    have : (crd a t 0).val < 1 := (crd a t 0).isLt
    omega

/-! ## What each point leaves -/

/-- What the body leaves in the output block. -/
def after2 (c : Dev nD) (t : Fin (cfgA a).N) : S512x2048.Idx → Elt F .f32 :=
  if used a t then k0_pay2 (iblk a m ρ c (0 : Fin 3) t) (k0_pay1 (iblk a m ρ c (1 : Fin 3) t)) else k0_pay3

/-- What the scratch buffer holds before a position: the weights of the tile before it, cast, if that is in use. -/
def Casts (c : Dev nD) (n : ℕ) (s0 : S1024x2048.Idx → Elt F .bf16) : Prop :=
  ∀ t : Fin (cfgA a).N, t.val + 1 = n → used a t → s0 = k0_pay1 (iblk a m ρ c (1 : Fin 3) t)

/-- The invariant between points. -/
def Phi (c : Dev nD) (t : Fin ((cfgA a).N + 1)) : sProp 𝕄 :=
  iprop(∃ s0, ⌜Casts a m ρ c t.val s0⌝ ∗ (wM.view.loc (c : Thread nD τ) ↦{fullShare} s0)
    ∗ (teM.view.loc (c : Thread nD τ) ↦{fullShare.right} T0 a) ∗ (nvM.view.loc (c : Thread nD τ) ↦{fullShare.right} T1 a))

/-- The proof data of the pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 3) t
    | ⟨1, _⟩ => iblk a m ρ c (1 : Fin 3) t
    | ⟨2, _⟩ => after2 a m ρ c t
  Φ t := Phi a m ρ c t
  q _ := fullShare
  owed _ := 0

theorem before0 (c : Dev nD) (t : Fin (cfgA a).N) (d) : (dats a m ρ 0 c).before (0 : Fin 3) t d = iblk a m ρ c (0 : Fin 3) t :=
  ((dats a m ρ 0 c).before_in_eq_fetched (0 : Fin 3) rfl (fun _ => rfl) (fun _ _ _ => rfl)
    (fun t => by show iblk a m ρ c (0 : Fin 3) t = _; unfold Dat.blockOf iblk; rfl) t d).trans (by unfold Dat.fetched Dat.blockOf iblk; rfl)
theorem before1 (c : Dev nD) (t : Fin (cfgA a).N) (d) : (dats a m ρ 0 c).before (1 : Fin 3) t d = iblk a m ρ c (1 : Fin 3) t :=
  ((dats a m ρ 0 c).before_in_eq_fetched (1 : Fin 3) rfl (fun _ => rfl) (fun _ _ _ => rfl)
    (fun t => by show iblk a m ρ c (1 : Fin 3) t = _; unfold Dat.blockOf iblk; rfl) t d).trans (by unfold Dat.fetched Dat.blockOf iblk; rfl)
/-- The output block is stored at every point. -/
theorem live2 (i : grid0.Coords) : (cfgA a).idle (2 : Fin 3) i = false := by
  show (!(k0_cond2 i _ == 1#1) && !(k0_cond3 i _ == 1#1)) = false
  rw [Bool.and_eq_false_iff]
  by_cases h : Scalar.cmpi .slt (BitVec.ofNat 32 (i 1).val) ((a.1).atD 1 ![0] : BitVec 32) = 1#1
  · left; rw [(cond2_iff i _).mpr h]; rfl
  · right; rw [(cond3_iff i _).mpr h]; rfl

theorem coords_pred : ∀ t : Fin grid0.N, (grid0.coords t 1).val ≠ 0 → ∀ s : Fin grid0.N, s.val + 1 = t.val →
    (grid0.coords s 1).val = (grid0.coords t 1).val - 1 := by
  have h : ∀ t : Fin grid0.N, (grid0.coords t 1).val = t.val := by decide +kernel
  intro t h0 s hs
  rw [h t, h s]
  omega

include g in
/-- At a tile in use whose expert is the previous tile's, the previous tile's weights are its own. -/
theorem casts_same (c : Dev nD) (t : Fin (cfgA a).N) (hu : used a t) (h0 : (crd a t 1).val ≠ 0)
    (hte : teW (F := F) (T0 a) (crd a t) = tePrevW (F := F) (T0 a) (crd a t)) (s0 : S1024x2048.Idx → Elt F .bf16)
    (h : Casts a m ρ c t.val s0) : s0 = k0_pay1 (iblk a m ρ c (1 : Fin 3) t) := by
  have hN : ∀ t : Fin grid0.N, (grid0.coords t 1).val ≠ 0 → t.val ≠ 0 := by decide +kernel
  have ht : t.val ≠ 0 := hN t h0
  obtain ⟨p, hp⟩ : ∃ p : Fin (cfgA a).N, p.val + 1 = t.val := ⟨⟨t.val - 1, by omega⟩, by show t.val - 1 + 1 = t.val; omega⟩
  have e1 := coords_pred t h0 p hp
  have r0 := h p hp (by show (crd a p 1).val < _; have : (crd a p 1).val = (crd a t 1).val - 1 := e1; have : (crd a t 1).val < _ := hu; omega)
  have hexp : exp a g p = exp a g t := Fin.ext (by
    show (T0 a (ix1 (crd a p 1))).toNat = (T0 a (ix1 (crd a t 1))).toNat
    rw [teW_eq, tePrevW_eq (T0 a) (crd a t) (crd a p 1) e1] at hte
    exact congrArg BitVec.toNat hte.symm)
  rw [r0, iblk1_eq a m ρ g, iblk1_eq a m ρ g, hexp]

end Cert.Kernel3.Tiles

end
-- ==== Proof.DownLaunch.lean ====
/- Hand-written. The expert down-projection at any tables in range, over any arithmetic: the body at every grid point,
   the launch, and the array it ends with. -/
module

public import proofs.«01_k».proof.Proof.Down

@[expose] public section

set_option maxRecDepth 16384
set_option Elab.async false

noncomputable section

namespace Cert.Kernel3.Tiles

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Tiles

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg) (g : Good (T0 a) (T1 a))

/-- The body at point `t` on its staging memrefs, as the pipeline calls it. -/
abbrev bodyAt (t : Fin (cfgA a).N) : Prog (TpuEff nD τ sig (Elt F) Λ₀ .tc) PUnit :=
  body (crd a t) (ms0 a t) (hs0 a t) (ms1 a t) (hs1 a t) (ms2 a t) (hs2 a t)

/-- What the buffers hold at a point, before the body or after it. -/
theorem held_intro (c : Dev nD) (t : Fin (cfgA a).N) (x0 x1 d s0) :
    iprop(owns (c : Thread nD τ) (ms0 a t) fullShare x0 ∗ owns (c : Thread nD τ) (ms1 a t) fullShare x1
      ∗ owns (c : Thread nD τ) (ms2 a t) fullShare d ∗ (wM.view.loc (c : Thread nD τ) ↦{fullShare} s0)
      ∗ (teM.view.loc (c : Thread nD τ) ↦{fullShare.right} T0 a) ∗ (nvM.view.loc (c : Thread nD τ) ↦{fullShare.right} T1 a))
    ⊢ (held c (ms0 a t) (ms1 a t) (ms2 a t) (T0 a) (T1 a) x0 x1 d s0 : sProp 𝕄) := by
  unfold held
  iintro ⟨H0, H1, H2, HS0, HT0, HT1⟩
  isplitl [H0]; · iapply rep_of_owns; iexact H0
  isplitl [H1]; · iapply rep_of_owns; iexact H1
  isplitl [HT0]; · iexact HT0
  isplitl [HT1]; · iexact HT1
  isplitl [H2]; · iexact H2
  iexact HS0

theorem held_elim (c : Dev nD) (t : Fin (cfgA a).N) (x0 x1 d s0) :
    (held c (ms0 a t) (ms1 a t) (ms2 a t) (T0 a) (T1 a) x0 x1 d s0 : sProp 𝕄) ⊢
    iprop(owns (c : Thread nD τ) (ms0 a t) fullShare x0 ∗ owns (c : Thread nD τ) (ms1 a t) fullShare x1
      ∗ owns (c : Thread nD τ) (ms2 a t) fullShare d ∗ (wM.view.loc (c : Thread nD τ) ↦{fullShare} s0)
      ∗ (teM.view.loc (c : Thread nD τ) ↦{fullShare.right} T0 a) ∗ (nvM.view.loc (c : Thread nD τ) ↦{fullShare.right} T1 a)) := by
  unfold held
  iintro ⟨H0, H1, HT0, HT1, H2, HS0⟩
  isplitl [H0]; · iapply owns_of_rep; iexact H0
  isplitl [H1]; · iapply owns_of_rep; iexact H1
  isplitl [H2]; · iexact H2
  isplitl [HS0]; · iexact HS0
  isplitl [HT0]; · iexact HT0
  iexact HT1

include g in
/-- The body at a point, whichever of its three ways it takes: the block it leaves, and the scratch buffers as the
    next point needs them. -/
theorem run_point (c : Dev nD) (t : Fin (cfgA a).N) (d) (s0 : S1024x2048.Idx → Elt F .bf16) (hs : Casts a m ρ c t.val s0) (K : PUnit → sProp 𝕄) :
    iprop(held c (ms0 a t) (ms1 a t) (ms2 a t) (T0 a) (T1 a) (iblk a m ρ c (0 : Fin 3) t) (iblk a m ρ c (1 : Fin 3) t) d s0
      ∗ ((∃ s0', ⌜Casts a m ρ c (t.val + 1) s0'⌝ ∗ held c (ms0 a t) (ms1 a t) (ms2 a t) (T0 a) (T1 a)
          (iblk a m ρ c (0 : Fin 3) t) (iblk a m ρ c (1 : Fin 3) t) (after2 a m ρ c t) s0') -∗ K ⟨⟩))
      ⊢ wp frame (wpE (defs₀ (F := F)) Variants.none c none) Set.univ (bodyAt a t) K := by
  have hv : nvW (F := F) (T1 a) = T1 a (ix1 0) := nvW_eq _
  have hiff := used_iff (crd a t 1) (T1 a (ix1 0)) g.le
  have key : ∀ p : Fin (cfgA a).N, p.val + 1 = t.val + 1 → p = t := fun p hp => Fin.ext (by omega)
  by_cases hu : used a t
  · have h2 : k0_cond2 (crd a t) (nvW (F := F) (T1 a)) = 1#1 := by rw [hv, cond2_iff]; exact hiff.mpr hu
    have h3 : ¬ k0_cond3 (crd a t) (nvW (F := F) (T1 a)) = 1#1 := by rw [hv, cond3_iff]; exact fun h => h (hiff.mpr hu)
    have ha : after2 a m ρ c t = k0_pay2 (iblk a m ρ c (0 : Fin 3) t) (k0_pay1 (iblk a m ρ c (1 : Fin 3) t)) := if_pos hu
    rw [ha]
    by_cases hn : newW (F := F) (T0 a) (T1 a) (crd a t) = 1#1
    · refine .trans ?_ (run_new c (crd a t) (ms0 a t) (hs0 a t) (ms1 a t) (hs1 a t) (ms2 a t) (hs2 a t) (T0 a) (T1 a) (iblk a m ρ c (0 : Fin 3) t) (iblk a m ρ c (1 : Fin 3) t) hn h2 h3 d s0 K)
      iintro ⟨H, Hk⟩
      isplitl [H]; · iexact H
      iintro H
      iapply Hk
      iexists _
      isplitr; swap
      · iexact H
      · ipureintro; intro p hp _; rw [key p hp]
    · have hne : (crd a t 1).val ≠ 0 ∧ teW (F := F) (T0 a) (crd a t) = tePrevW (F := F) (T0 a) (crd a t) := by
        have hz := zero_iff (crd a t 1)
        rw [newW, bit_cases, hv, hiff, hz, ne_iff] at hn
        by_contra hc
        refine hn ⟨hu, ?_⟩
        by_cases h0 : (crd a t 1).val = 0
        · exact .inl h0
        · exact .inr fun he => hc ⟨h0, he⟩
      have e0 := casts_same a m ρ g c t hu hne.1 hne.2 s0 hs
      rw [← e0]
      refine .trans ?_ (run_same c (crd a t) (ms0 a t) (hs0 a t) (ms1 a t) (hs1 a t) (ms2 a t) (hs2 a t) (T0 a) (T1 a) (iblk a m ρ c (0 : Fin 3) t) (iblk a m ρ c (1 : Fin 3) t) hn h2 h3 d s0 K)
      iintro ⟨H, Hk⟩
      isplitl [H]; · iexact H
      iintro H
      iapply Hk
      iexists _
      isplitr; swap
      · iexact H
      · ipureintro; intro p hp _; rw [key p hp]; exact e0
  · have h2 : ¬ k0_cond2 (crd a t) (nvW (F := F) (T1 a)) = 1#1 := by rw [hv, cond2_iff]; exact fun h => hu (hiff.mp h)
    have h3 : k0_cond3 (crd a t) (nvW (F := F) (T1 a)) = 1#1 := by rw [hv, cond3_iff]; exact fun h => hu (hiff.mp h)
    have hn : ¬ newW (F := F) (T0 a) (T1 a) (crd a t) = 1#1 := by rw [newW, bit_cases, hv, hiff]; exact fun h => hu h.1
    have ha : after2 a m ρ c t = k0_pay3 := if_neg hu
    rw [ha]
    refine .trans ?_ (run_unused c (crd a t) (ms0 a t) (hs0 a t) (ms1 a t) (hs1 a t) (ms2 a t) (hs2 a t) (T0 a) (T1 a) (iblk a m ρ c (0 : Fin 3) t) (iblk a m ρ c (1 : Fin 3) t) hn h2 h3 d s0 K)
    iintro ⟨H, Hk⟩
    isplitl [H]; · iexact H
    iintro H
    iapply Hk
    iexists _
    isplitr; swap
    · iexact H
    · ipureintro; intro p hp hp'; rw [key p hp] at hp'; exact absurd hp' hu

set_option maxHeartbeats 4000000 in
include g in
/-- The body obligation at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 3) t d))
        ∗ (∃ d, owns (c : Thread nD τ) (ms1 a t) fullShare ((dats a m ρ 0 c).before (1 : Fin 3) t d))
        ∗ (∃ d, owns (c : Thread nD τ) (ms2 a t) fullShare ((dats a m ρ 0 c).before (2 : Fin 3) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [live2 a]
  simp only [before0, before1]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  simp only [Fin.val_castSucc, Fin.val_succ]
  iintro ⟨⟨%s0, %hs, HS0, HT0, HT1⟩, Ho, ⟨%d0, H0⟩, ⟨%d1, H1⟩, ⟨%d2, H2⟩⟩
  iapply (run_point a m ρ g c t _ s0 hs _)
  isplitl [HS0 HT0 HT1 H0 H1 H2]
  · iapply held_intro
    isplitl [H0]; · iexact H0
    isplitl [H1]; · iexact H1
    isplitl [H2]; · iexact H2
    isplitl [HS0]; · iexact HS0
    isplitl [HT0]; · iexact HT0
    iexact HT1
  iintro ⟨%s0', %hs', H⟩
  ihave ⟨H0, H1, H2, HS0, HT0, HT1⟩ := held_elim $$ H
  isplitl [HS0 HT0 HT1]
  · iexists s0'
    isplitr; · ipureintro; exact hs'
    isplitl [HS0]; · iexact HS0
    isplitl [HT0]; · iexact HT0
    iexact HT1
  isplitl [Ho]; · iexact Ho
  isplitl [H0]; · iexact H0
  isplitl [H1]; · iexact H1
  iexact H2

include g in
/-- The library's body obligation, at every point. -/
theorem body_obligation (c : Dev nD) : BodyObligation (dats a m ρ 0 c) (defs₀ (F := F)) Variants.none () Set.univ := fun t => by
  rw [bigSep_W0]
  exact sound_body a m ρ g c t

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

abbrev EP : Emb (UR sig nD τ) 𝕄 := emb₁

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩⟩
  iexists a0
  isplitr; · ipureintro; intro t ht; exact absurd ht (Nat.succ_ne_zero _)
  isplitl [HS0]; · iexact HS0
  isplitl [HT0]; · iexact HT0
  iexact HT1

/-- at the last point it gives the scratch buffers back, the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨%a0, -, HS0, -, -⟩
  isplitr; · iempintro
  iexists a0; iexact HS0

/-- Every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

variable (hm : ∀ (c : Dev nD) (j : Fin 2), m ((c : Thread nD τ).loc (pre0.ref j)) = a.1 j)

set_option backward.isDefEq.respectTransparency.types false in
set_option maxHeartbeats 4000000 in
include g hm in
/-- From any memory with zero counters whose tables are `a`'s: every weakly fair execution terminates, and every final
    state has each array at the computed contents and every counter at zero. -/
theorem run_main_quiescent : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ g c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hm)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-! ## The array -/

/-- A tile of the output: computed from its rows and its expert's weights if it is in use, zeros otherwise. -/
def tile (c : Dev nD) (n : Fin 80) : S512x2048.Idx → Elt F .f32 :=
  if n.val < (T1 a (ix1 0)).toNat then
    k0_pay2 (xB (m ((c : Thread nD τ).loc main_arg0)) n) (k0_pay1 (wB (m ((c : Thread nD τ).loc main_arg1)) ⟨(T0 a (ix1 n)).toNat, g.te _⟩))
  else k0_pay3

theorem after2_eq (c : Dev nD) (t : Fin (cfgA a).N) : after2 a m ρ c t = tile a m g c (crd a t 1) := by
  unfold after2 tile
  by_cases h : used a t
  · rw [if_pos h, if_pos h, iblk0_eq a m ρ g c t (crd a t 1) (by have : (crd a t 1).val < _ := h; omega), iblk1_eq a m ρ g]
  · rw [if_neg h, if_neg h]

/-- What the output array ends with. -/
def result (c : Dev nD) : S40960x2048.Idx → Elt F .f32 := fun x =>
  tile a m g c ⟨(x 0).val / 512, by have : (x 0).val < 40960 := (x 0).isLt; omega⟩ (ix2 ⟨(x 0).val % 512, Nat.mod_lt _ (by decide)⟩ (x 1))

theorem result_at (c : Dev nD) (x : S40960x2048.Idx) (n : Fin 80) (y : S512x2048.Idx) (h0 : (x 0).val = n.val * 512 + (y 0).val)
    (h1 : (x 1).val = (y 1).val) : result a m g c x = tile a m g c n y := by
  have l0 : (y 0).val < 512 := (y 0).isLt
  unfold result
  have a0 : (x 0).val / 512 = n.val := by omega
  have a2 : (ix2 ⟨(x 0).val % 512, Nat.mod_lt _ (by decide)⟩ (x 1) : S512x2048.Idx) = y := by
    funext d
    apply Fin.ext
    fin_cases d
    · show (x 0).val % 512 = (y 0).val; omega
    · exact h1
  simp only [a0, a2]

theorem coords_at : ∀ n : Fin 80, ∃ t : Fin grid0.N, (grid0.coords t 1).val = n.val := by
  have h : ∀ n : Fin 80, ∃ h : n.val < grid0.N, (grid0.coords ⟨n.val, h⟩ 1).val = n.val := by decide +kernel
  exact fun n => (h n).elim fun h e => ⟨_, e⟩

theorem step_ne : ∀ (t : Fin grid0.N) (h : t.val + 1 < grid0.N), (grid0.coords ⟨t.val + 1, h⟩ 1).val ≠ (grid0.coords t 1).val := by decide +kernel

theorem flush2 (t : Fin (cfgA a).N) : ((cfgA a).win (2 : Fin 3)).flush t = true := by
  rw [Window.flush_eq_flushF]
  unfold Window.flushF
  rw [Bool.and_eq_true, Bool.or_eq_true, decide_eq_true_eq, decide_eq_true_eq]
  refine ⟨rfl, ?_⟩
  by_cases h : t.val + 1 = (cfgA a).N
  · exact .inl h
  · have h' : t.val + 1 < (cfgA a).N := lt_of_le_of_ne t.isLt h
    refine .inr ⟨h', (0 : Fin 2), ?_⟩
    show cc0_transform_2 (grid0.coords ⟨t.val + 1, h'⟩) 0 ≠ cc0_transform_2 (grid0.coords t) 0
    rw [tr2_eq, tr2_eq]
    exact step_ne t h'

theorem covers2 : ((cfgA a).win (2 : Fin 3)).Covers := by
  refine ⟨fun d => by revert d; exact (by decide : ∀ d : Fin 2, 0 < S512x2048.size d), fun β => ?_⟩
  have k0 : (β (0 : Fin 2)).val < 80 := lt_of_lt_of_eq (β (0 : Fin 2)).isLt (show (S40960x2048.size 0 + S512x2048.size 0 - 1) / S512x2048.size 0 = 80 by decide)
  have k1 : (β (1 : Fin 2)).val < 1 := lt_of_lt_of_eq (β (1 : Fin 2)).isLt (show (S40960x2048.size 1 + S512x2048.size 1 - 1) / S512x2048.size 1 = 1 by decide)
  obtain ⟨t, e1⟩ := coords_at ⟨_, k0⟩
  have e0 : (grid0.coords t 0).val = (β (1 : Fin 2)).val := by have : (grid0.coords t 0).val < 1 := (grid0.coords t 0).isLt; omega
  refine ⟨t, flush2 a t, fun d => ⟨?_, .inl rfl⟩⟩
  show cc0_transform_2 (grid0.coords t) d = β d
  rw [tr2_eq]
  revert d
  exact fun d => by fin_cases d; exacts [e1, e0]

theorem arr_eq (c : Dev nD) : (dats a m ρ 0 c).arrAt (2 : Fin 3) (cfgA a).N = result a m g c := by
  refine (dats a m ρ 0 c).arrAt_eq_of_covers (2 : Fin 3) (result a m g c) (covers2 a) (fun t hf y => ?_)
  have e (d : Fin 2) : (((((cfgA a).win (2 : Fin 3)).rect t).emb y) d : ℕ) = cc0_transform_2 (crd a t) d * S512x2048.size d + (y d).val :=
    ValueKit.rect_emb_unit_val _ _ _ y d
  have e0 : (((((cfgA a).win (2 : Fin 3)).rect t).emb y) (0 : Fin 2) : ℕ) = (crd a t 1).val * 512 + (y (0 : Fin 2)).val := by
    rw [e, tr2_eq]; rfl
  have e1 : (((((cfgA a).win (2 : Fin 3)).rect t).emb y) (1 : Fin 2) : ℕ) = (y (1 : Fin 2)).val := by
    rw [e, tr2_eq]
    show (crd a t 0).val * 2048 + (y (1 : Fin 2)).val = _
    have : (crd a t 0).val < 1 := (crd a t 0).isLt
    omega
  exact (congrFun (after2_eq a m ρ g c t) y).trans (result_at a m g c _ _ y e0 e1).symm

include g hm in
/-- The run: the output array is `result`, the arguments and the tables are as at the start, every counter is zero. -/
theorem run : θ_run (defs (F := F)) (onTc (τ := τ) (main (F := F))) ⟨m, fun _ => 0, ρ⟩ (fun r => (∀ c : Dev nD,
      r.2.mem ((c.tc : Thread nD τ).loc main_v0) = result a m g c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 (2 : Fin 3)).trans (arr_eq a m ρ g c), ((h.1 c).1 (0 : Fin 3)).trans ((dats a m ρ 0 c).arrAt_in (0 : Fin 3) rfl _),
      ((h.1 c).1 (1 : Fin 3)).trans ((dats a m ρ 0 c).arrAt_in (1 : Fin 3) rfl _),
      ((h.1 c).2 0).trans (hm c 0).symm, ((h.1 c).2 1).trans (hm c 1).symm⟩, h.2⟩) (run_main_quiescent a m ρ g hm)

end Cert.Kernel3.Tiles

end
-- ==== Proof.DownValue.lean ====
/- Hand-written. The expert down-projection: its reference read at an index, the kernel's tiles read at an index, their
   equality, and the run at each of the two instances. -/
module

public import proofs.«01_k».proof.Proof.Gates
public import proofs.«01_k».proof.Proof.Gen.Reference3Ideal.Run
public import proofs.«01_k».proof.Proof.DownLaunch
public import proofs.«01_k».proof.Proof.Gen.Kernel3Ideal

@[expose] public section

set_option maxRecDepth 16384

noncomputable section

namespace Cert.Reference3Ideal.Value

open Cert.Reference3Ideal Cert.Reference3Ideal.Gen Idealize.ShloMosaic Idealize.ShloMosaic.TcCoe Idealize.SL.Sem
open Cert.Tiles
open Cert.Reference2Ideal.Value (gates gates_at sum_gated)

variable (x : FVec Ideal S40960x1024 .bf16) (w : FVec Ideal S16x1024x2048 .f32) (te : IVec S80 32) (nv : IVec S1 32)

/-- The hidden rows, the same at every expert. -/
def copied : FVec Ideal S40960x16x1024 .f32 :=
  broadcastInDim S40960x16x1024 ![0, 1, 2] bcast_S40960x1x1024_S40960x16x1024_0_1_2
    (broadcastInDim S40960x1x1024 ![0, 2] bcast_S40960x1024_S40960x1x1024_0_2 (extf .f32 x bitsLt_bf16_f32))

theorem copied_at (r : Fin 40960) (e : Fin 16) (f : Fin 1024) : copied x (ix3 r e f) = x (ix2 r f) := by
  pointwise [copied]

/-- The gates, the same for every hidden unit. -/
def spread (t : FVec Ideal S40960x16 .f32) : FVec Ideal S40960x16x1024 .f32 :=
  broadcastInDim S40960x16x1024 ![0, 1, 2] bcast_S40960x16x1_S40960x16x1024_0_1_2
    (broadcastInDim S40960x16x1 ![0, 1] bcast_S40960x16_S40960x16x1_0_1 t)

theorem spread_at (t) (r : Fin 40960) (e : Fin 16) (f : Fin 1024) : spread t (ix3 r e f) = t (ix2 r e) := by
  pointwise [spread]

/-- The sum over experts and hidden units. -/
def summed (h : FVec Ideal S40960x16x1024 .f32) : FVec Ideal S40960x2048 .f32 :=
  Host.dotGeneral dot_S40960x16x1024_S16x1024x2048_S40960x2048_12_01_0_2_n_n none h w

theorem summed_at (h) (r : Fin 40960) (d : Fin 2048) :
    summed w h (ix2 r d) = ∑ e : Fin 16, ∑ f : Fin 1024, h (ix3 r e f) * w (ix3 e f d) := by
  pointwise [summed]

/-- The reference's result, in stages. -/
def lowered : FVec Ideal S40960x2048 .f32 := summed w (mulf (copied x) (spread (gates te nv)))

theorem lowered_at (g : Good te nv) (n : Fin 80) (i : Fin 512) (d : Fin 2048) :
    lowered x w te nv (ix2 ⟨n.val * 512 + i.val, by omega⟩ d)
      = if n.val < (nv (ix1 0)).toNat then
          ∑ f : Fin 1024, x (ix2 ⟨n.val * 512 + i.val, by omega⟩ f) * w (ix3 ⟨(te (ix1 n)).toNat, g.te n⟩ f d) else 0 := by
  unfold lowered
  rw [summed_at]
  refine (Finset.sum_congr rfl fun e _ => ?_).trans
    (sum_gated _ _ fun e => ∑ f : Fin 1024, x (ix2 ⟨n.val * 512 + i.val, by omega⟩ f) * w (ix3 e f d))
  have key (f : Fin 1024) : mulf (copied x) (spread (gates te nv)) (ix3 ⟨n.val * 512 + i.val, by omega⟩ e f)
      = x (ix2 ⟨n.val * 512 + i.val, by omega⟩ f)
        * (if n.val < (nv (ix1 0)).toNat ∧ e = ⟨(te (ix1 n)).toNat, g.te n⟩ then 1 else 0) := by
    show copied x _ * spread (gates te nv) _ = _
    rw [copied_at, spread_at, gates_at te nv g]
  simp only [key]
  split
  · simp only [mul_one]
  · simp only [mul_zero, zero_mul, Finset.sum_const_zero]

end Cert.Reference3Ideal.Value

namespace Cert.Kernel3.Tiles

open Cert.Kernel3 Cert.Kernel3.Gen
open Idealize.ShloMosaic Idealize.ShloMosaic.TcCoe Idealize.SL.Sem
open Cert.Tiles Cert.Reference3Ideal.Value

section Run

variable {F : FTy → Type} [FloatOps F] (m : (ℓ : Loc nD τ sig) → Buf (Elt F) ℓ) (ρ : Dev nD → PrngReg)

/-- The tables a memory holds. -/
def tables (c : Dev nD) : pre0.Contents (Elt F) := fun j => m ((c.tc : Thread nD τ).loc (pre0.ref j))

/-- Tables in range, as the launch takes them. -/
def admitted (g : Good (tables m 0 0) (tables m 0 1)) : (pcfg0 (F := F)).Adm := ⟨tables m 0, ok_of_good _ g⟩

/-- The run from a memory whose tables are in range. -/
theorem run_of_good (g : Good (tables m 0 0) (tables m 0 1)) :
    θ_run (defs (F := F)) (onTc (τ := τ) (main (F := F))) ⟨m, fun _ => 0, ρ⟩ (fun r => (∀ c : Dev nD,
      r.2.mem ((c.tc : Thread nD τ).loc main_v0) = result (admitted m g) m g c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  run (admitted m g) m ρ g fun c j => congrFun (congrArg (tables m) (Subsingleton.elim c 0)) j

end Run

section Value

variable (xt : FVec Ideal S512x1024 .bf16) (w : FVec Ideal S1x1024x2048 .f32)

theorem pay2_at (i : Fin 512) (d : Fin 2048) : k0_pay2 (F := Ideal) xt (k0_pay1 (F := Ideal) w) (ix2 i d)
    = ∑ f : Fin 1024, xt (ix2 i f) * w (ix3 0 f d) := by
  pointwise [k0_pay2, k0_pay1]

theorem pay3_at (i : Fin 512) (d : Fin 2048) : k0_pay3 (F := Ideal) (ix2 i d) = (0 : EReal) := by
  pointwise [k0_pay3]

variable (a : (pcfg0 (F := Ideal)).Adm) (m : (ℓ : Loc nD τ sig) → Buf (Elt Ideal) ℓ) (g : Good (T0 a) (T1 a))

/-- The output array is the reference's. -/
theorem result_eq (c : Dev nD) : result a m g c = lowered (m ((c : Thread nD τ).loc main_arg0)) (m ((c : Thread nD τ).loc main_arg1)) (T0 a) (T1 a) := by
  funext y
  obtain ⟨r, q, rfl⟩ : ∃ r q, y = ix2 r q := ⟨y 0, y 1, by funext i; fin_cases i <;> rfl⟩
  obtain ⟨n, i, rfl⟩ : ∃ (n : Fin 80) (i : Fin 512), r = ⟨n.val * 512 + i.val, by omega⟩ :=
    ⟨⟨r.val / 512, by omega⟩, ⟨r.val % 512, by omega⟩, Fin.ext (by dsimp only; omega)⟩
  rw [result_at a m g c _ n (ix2 i q) rfl rfl, lowered_at _ _ _ _ g]
  unfold tile
  by_cases h : n.val < (T1 a (ix1 0)).toNat
  · rw [if_pos h, if_pos h]
    exact pay2_at _ _ i q
  · rw [if_neg h, if_neg h]
    exact pay3_at i q

end Value

end Cert.Kernel3.Tiles

namespace Cert.Kernel3Ideal.Tiles

open Cert.Kernel3Ideal Cert.Kernel3Ideal.Gen
open Idealize.ShloMosaic Idealize.ShloMosaic.TcCoe Idealize.SL.Sem
open Cert.Tiles Cert.Reference3Ideal.Value

set_option maxHeartbeats 4000000 in
/-- The two printed texts define the same bodies. -/
theorem defs₀_eq : Cert.Kernel3Ideal.defs₀ (F := Ideal) = Cert.Kernel3.defs₀ (F := Ideal) := by
  unfold Cert.Kernel3Ideal.defs₀ Cert.Kernel3.defs₀
  refine congrArg Defs.onTc (funext fun p => funext fun x => ?_)
  obtain ⟨_ | p, h⟩ := p
  · rfl
  · exact absurd h (by omega)

set_option maxHeartbeats 4000000 in
theorem defs_eq : Cert.Kernel3Ideal.defs (F := Ideal) = Cert.Kernel3.defs (F := Ideal) :=
  congrArg (Pipeline.defs (Cert.Kernel3.pcfgs (F := Ideal))) defs₀_eq

variable (m : (ℓ : Loc nD τ sig) → Buf (Elt Ideal) ℓ) (ρ : Dev nD → PrngReg)

set_option maxHeartbeats 4000000 in
/-- The second text's run: the output array is the reference's of the arguments. -/
theorem run (g : Good (m (((0 : Dev nD).tc : Thread nD τ).loc main_arg2)) (m (((0 : Dev nD).tc : Thread nD τ).loc main_arg3))) :
    θ_run (defs (F := Ideal)) (onTc (τ := τ) (main (F := Ideal))) ⟨m, fun _ => 0, ρ⟩ (fun r => (∀ c : Dev nD,
      r.2.mem ((c.tc : Thread nD τ).loc main_v0) = lowered (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  refine (θ_run (Cert.Kernel3.defs (F := Ideal)) _ _).mono (fun r h => ⟨fun c => ⟨(h.1 c).1.trans ?_, (h.1 c).2⟩, h.2⟩)
    (Cert.Kernel3.Tiles.run_of_good (F := Ideal) m ρ g)
  obtain rfl : c = 0 := Subsingleton.elim _ _
  exact Cert.Kernel3.Tiles.result_eq _ m g 0

end Cert.Kernel3Ideal.Tiles

end
-- ==== Proof.Modulation.lean ====
/- Hand-written. The adaptive modulation: the kernel's blocks, the host's padding and cut, and the reference read at an
   index, and their equality. -/
module

public import proofs.«01_k».proof.Proof.Gen.Kernel9Ideal.Frame
public import proofs.«01_k».proof.Proof.Gen.Reference9Ideal.Run
public import Idealize.ShloMosaic.Lib.Pointwise
public import Idealize.ShloMosaic.Lib.ValueLayout
public import Idealize.ShloMosaic.Lib.Pipeline.ValueKit
public import Idealize.ShloMosaic.Lib.StableHlo.ReadAt

@[expose] public section

set_option maxRecDepth 16384

noncomputable section

namespace Cert.Reference9Ideal.Value

open Cert.Reference9Ideal Cert.Reference9Ideal.Gen Idealize.ShloMosaic Idealize.ShloMosaic.TcCoe Idealize.SL.Sem

/-- An array times its logistic function. -/
def silu (c : FVec Ideal S8x2048 .f32) : FVec Ideal S8x2048 .f32 :=
  mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))

theorem silu_at (c : FVec Ideal S8x2048 .f32) (b : Fin 8) (d : Fin 2048) : silu c (ix2 b d) = c (ix2 b d) * Ideal.logistic (c (ix2 b d)) := by
  pointwise [silu]
  rfl

variable (c : FVec Ideal S8x2048 .f32) (w : FVec Ideal S2048x12288 .f32) (b : FVec Ideal S12288 .f32)

/-- The modulation before the reshape. -/
def flat : FVec Ideal S8x12288 .f32 :=
  addf (Host.dotGeneral dot_S8x2048_S2048x12288_S8x12288_1_0_0_1_n_n none (silu c) w)
    (broadcastInDim S8x12288 ![0, 1] bcast_S1x12288_S8x12288_0_1 (broadcastInDim S1x12288 ![1] bcast_S12288_S1x12288_1 b))

/-- The reference's result. -/
def modulation : FVec Ideal S8x6x2048 .f32 := shapeCast _ (flat c w b) shapeCasts_S8x12288_S8x6x2048

theorem flat_at (r : Fin 8) (q : Fin 12288) : flat c w b (ix2 r q)
    = (∑ d : Fin 2048, c (ix2 r d) * Ideal.logistic (c (ix2 r d)) * w (ix2 d q)) + b (ix1 q) := by
  simp only [← silu_at]
  pointwise [flat]

end Cert.Reference9Ideal.Value

namespace Cert.Kernel9Ideal.Value

open Cert.Kernel9Ideal Cert.Kernel9Ideal.Gen Idealize.ShloMosaic Idealize.ShloMosaic.TcCoe Idealize.SL.Sem
open Idealize.ShloMosaic.Pipeline (Dat)
open Cert.Reference9Ideal.Value (flat flat_at modulation)

theorem out_at (x0 : Vec Ideal S16x2048 .f32) (x1 : Vec Ideal S2048x1024 .f32) (x2 : Vec Ideal S1x1024 .f32) (i : Fin 16) (q : Fin 1024) :
    out0_3 x0 x1 x2 (ix2 i q) = (∑ d : Fin 2048, x0 (ix2 i d) * Ideal.logistic (x0 (ix2 i d)) * x1 (ix2 d q)) + x2 (ix2 0 q) := by
  unfold out0_3
  canon_tiles x h
  obtain ⟨i', q', rfl⟩ : ∃ i' q', x = ix2 i' q' := ⟨x 0, x 1, by funext i; fin_cases i <;> rfl⟩
  obtain rfl : i = i' := Fin.ext h0
  obtain rfl : q = q' := Fin.ext h1
  pointwise [k0_pay1]

variable (m : (ℓ : Loc nD τ sig) → Buf (Elt Ideal) ℓ)

/-- Every window's block index at a grid point. -/
theorem idx_val : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The conditioning's rows, padded with zeros. -/
theorem V_padded (c : Dev nD) : V m c main_v1 = (concatenate S16x2048 0 [⟨S8x2048, m ((c : Thread nD τ).loc main_arg0)⟩,
    ⟨S8x2048, broadcastInDim S8x2048 ![] bcast_S_S8x2048 (constant S_ .f32 0x00000000#32)⟩] concatenates_S8x2048_S8x2048_S16x2048_d0 : FVec Ideal S16x2048 .f32) := by
  entry_read
  rfl

theorem V_rows (c : Dev nD) (i : Fin 16) (d : Fin 2048) (hi : i.val < 8) :
    V m c main_v1 (ix2 i d) = m ((c : Thread nD τ).loc main_arg0) (ix2 ⟨i.val, hi⟩ d) := by
  rw [V_padded]
  pointwise
  exact dif_pos hi

theorem V_bias (c : Dev nD) : V m c main_v2 = (shapeCast S1x12288 (m ((c : Thread nD τ).loc main_arg2)) shapeCasts_S12288_S1x12288 : Vec Ideal S1x12288 .f32) := by
  entry_read
  rfl

theorem V_bias_at (c : Dev nD) (q : Fin 12288) : V m c main_v2 (ix2 0 q) = m ((c : Thread nD τ).loc main_arg2) (ix1 q) := by
  rw [V_bias]
  exact Idealize.ShloMosaic.ValueIdx.shapeCast_a_1a_apply _ _ 0 q

section Blocks

variable (c : Dev nD) (t : Fin cfg0.N)

theorem blk0_at (i : Fin 16) (d : Fin 2048) : iblk m c 0 t (ix2 i d) = V m c main_v1 (ix2 i d) := by
  blk_point [iblk, idx_val t]

theorem blk1_at (d : Fin 2048) (q : Fin 1024) : iblk m c 1 t (ix2 d q) = m ((c : Thread nD τ).loc main_arg1)
    (ix2 d ⟨t.val * 1024 + q.val, by have : t.val < 12 := t.isLt; omega⟩) := by
  have h : iblk m c 1 t (ix2 d q) = V m c main_arg1 (ix2 d ⟨t.val * 1024 + q.val, by have : t.val < 12 := t.isLt; omega⟩) := by blk_point [iblk, idx_val t]
  rw [h, V_main_arg1]

theorem blk2_at (q : Fin 1024) : iblk m c 2 t (ix2 0 q) = m ((c : Thread nD τ).loc main_arg2)
    (ix1 ⟨t.val * 1024 + q.val, by have : t.val < 12 := t.isLt; omega⟩) := by
  have h : iblk m c 2 t (ix2 0 q) = V m c main_v2 (ix2 0 ⟨t.val * 1024 + q.val, by have : t.val < 12 := t.isLt; omega⟩) := by blk_point [iblk, idx_val t]
  rw [h, V_bias_at]

end Blocks

/-- The call's result, of any 16 rows. -/
def whole (p : FVec Ideal S16x2048 .f32) (w : FVec Ideal S2048x12288 .f32) (b : FVec Ideal S12288 .f32) : FVec Ideal S16x12288 .f32 :=
  fun y => (∑ d : Fin 2048, p (ix2 (y 0) d) * Ideal.logistic (p (ix2 (y 0) d)) * w (ix2 d (y 1))) + b (ix1 (y 1))

theorem whole_at (p : FVec Ideal S16x2048 .f32) (w : FVec Ideal S2048x12288 .f32) (b : FVec Ideal S12288 .f32) (i : Fin 16) (q : Fin 12288) :
    whole p w b (ix2 i q) = (∑ d : Fin 2048, p (ix2 i d) * Ideal.logistic (p (ix2 i d)) * w (ix2 d q)) + b (ix1 q) := rfl

theorem array (c : Dev nD) : (dats m 0 c).arrAt 3 cfg0.N
    = whole (V m c main_v1) (m ((c : Thread nD τ).loc main_arg1)) (m ((c : Thread nD τ).loc main_arg2)) := by
  refine (dats m 0 c).arrAt_eq_of_covers 3 _ (by decide +kernel) fun t _ y => ?_
  blk_simp
  rw [after0_3]
  obtain ⟨i, q, rfl⟩ : ∃ i q, y = ix2 i q := ⟨y 0, y 1, by funext i; fin_cases i <;> rfl⟩
  have ht : t.val < 12 := t.isLt
  have he : ((cfg0.win 3).blk t).view.emb (ix2 i q) = ix2 i (⟨t.val * 1024 + q.val, by omega⟩ : Fin 12288) := by
    blk_ext [idx_val t]
  refine Eq.trans ?_ (congrArg (whole _ _ _) he).symm
  refine (out_at _ _ _ i q).trans ?_
  simp only [blk0_at, blk1_at, blk2_at]
  rfl

/-- The lines after the call: the first 8 rows, reshaped. -/
theorem tail (c : Dev nD) : Pipeline.afterTail₀ cfgs (dats m) 0 (V0 m) [hostOps1] c main_v5
    = (shapeCast S8x6x2048 (extractStridedSlice S8x12288 ![0, 0] (show FVec Ideal S16x12288 .f32 from (dats m 0 c).arrAt 3 cfg0.N) slices_S16x12288_S8x12288_0_0) shapeCasts_S8x12288_S8x6x2048 : Vec Ideal S8x6x2048 .f32) := by
  have h : Pipeline.withArrays (cfgs 0).spec c (V0 m c) (fun w => (dats m 0 c).arrAt w (cfgs 0).N) (Proc.devRef .tc main_v3)
      = (dats m 0 c).arrAt 3 cfg0.N :=
    Pipeline.withArrays_arr spec0 (by decide) c (V0 m c) (fun w => (dats m 0 c).arrAt w cfg0.N) 3
  rw [← h]
  unfold Pipeline.afterTail₀
  entry_read
  rfl

theorem final (c : Dev nD) : Pipeline.afterTail₀ cfgs (dats m) 0 (V0 m) [hostOps1] c main_v5
    = modulation (m ((c : Thread nD τ).loc main_arg0)) (m ((c : Thread nD τ).loc main_arg1)) (m ((c : Thread nD τ).loc main_arg2)) := by
  rw [tail, array]
  refine congrArg (shapeCast S8x6x2048 · _) (funext fun y => ?_)
  obtain ⟨r, q, rfl⟩ : ∃ r q, y = ix2 r q := ⟨y 0, y 1, by funext i; fin_cases i <;> rfl⟩
  have h : extractStridedSlice S8x12288 ![0, 0] (whole (V m c main_v1) (m ((c : Thread nD τ).loc main_arg1)) (m ((c : Thread nD τ).loc main_arg2)))
      slices_S16x12288_S8x12288_0_0 (ix2 r q) = whole (V m c main_v1) (m ((c : Thread nD τ).loc main_arg1)) (m ((c : Thread nD τ).loc main_arg2))
        (ix2 ⟨r.val, by omega⟩ q) := by
    pointwise
  rw [flat_at]
  refine h.trans ((whole_at _ _ _ _ _).trans ?_)
  simp only [V_rows m c ⟨r.val, _⟩ _ r.isLt]

/-- The run with the result named. -/
theorem run (ρ : Dev nD → PrngReg) : θ_run defs (onTc (τ := τ) (main (F := Ideal))) ⟨m, fun _ => 0, ρ⟩ fun r => ∀ c : Dev nD,
      r.2.mem ((c : Thread nD τ).loc main_v5)
        = modulation (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v5 (Pipeline.mem_restRefs_of main_v5 (by decide) (by decide))).trans (final m c), h.2 c⟩)
    (θ_run_and (run_main m ρ) (unchanged m ρ))

end Cert.Kernel9Ideal.Value

end
-- ==== Proof.ProjIn.lean ====
/- Hand-written. The even layer's projection in: the kernel's blocks read at an index, the reference read at an index,
   and their equality. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Reference4Ideal.Value

open Cert.Reference4Ideal Cert.Reference4Ideal.Gen Idealize.ShloMosaic Idealize.ShloMosaic.TcCoe Idealize.SL.Sem

variable (h : FVec Ideal S16384x2048 .bf16) (w : FVec Ideal S2048x8192 .f32)

/-- The reference's result. -/
def projected : FVec Ideal S16384x8192 .bf16 :=
  shapeCast _ (truncf .bf16 (Host.dotGeneral dot_S8x2048x2048_S2048x8192_S8x2048x8192_2_0_01_1_n_n none
    (shapeCast _ (extf .f32 h bitsLt_bf16_f32) shapeCasts_S16384x2048_S8x2048x2048) w) bitsLt_bf16_f32) shapeCasts_S8x2048x8192_S16384x8192

theorem projected_at (r : Fin 16384) (q : Fin 8192) : projected h w (ix2 r q) = ∑ d : Fin 2048, h (ix2 r d) * w (ix2 d q) := by
  pointwise [projected]

end Cert.Reference4Ideal.Value

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Reference4Ideal.Value (projected projected_at)

theorem out_at (x0 : Vec Ideal S1024x2048 .bf16) (x1 : Vec Ideal S2048x1024 .bf16) (i q : Fin 1024) :
    out0_2 x0 x1 (ix2 i q) = ∑ d : Fin 2048, x0 (ix2 i d) * x1 (ix2 d q) := by
  unfold out0_2
  canon_tiles x h
  obtain ⟨i', q', rfl⟩ : ∃ i' q', x = ix2 i' q' := ⟨x 0, x 1, by funext i; fin_cases i <;> rfl⟩
  obtain rfl : i = i' := Fin.ext h0
  obtain rfl : q = q' := Fin.ext h1
  pointwise [k0_pay1]

variable (m : (ℓ : Loc nD τ sig) → Buf (Elt Ideal) ℓ)

/-- Every window's block index at a grid point. -/
theorem idx_val : ∀ t : Fin cfg0.N, win0_0.index t = ![t.val / 8, 0] ∧ win0_1.index t = ![0, t.val % 8]
    ∧ win0_2.index t = ![t.val / 8, t.val % 8] :=
  (by decide +kernel : ∀ t : Fin grid0.N, _)

section Blocks

variable (c : Dev nD) (t : Fin cfg0.N)

theorem V_weights : V m c main_v0 = (truncf .bf16 (show FVec Ideal S2048x8192 .f32 from m ((c : Thread nD τ).loc main_arg1)) bitsLt_bf16_f32 : FVec Ideal S2048x8192 .bf16) := by
  entry_read
  rfl

theorem blk0_at (i : Fin 1024) (d : Fin 2048) : iblk m c 0 t (ix2 i d) = m ((c : Thread nD τ).loc main_arg0)
    (ix2 ⟨t.val / 8 * 1024 + i.val, by have : t.val < 128 := t.isLt; omega⟩ d) := by
  blk_point [iblk, V, idx_val t]

theorem blk1_at (d : Fin 2048) (q : Fin 1024) : iblk m c 1 t (ix2 d q) = m ((c : Thread nD τ).loc main_arg1)
    (ix2 d ⟨t.val % 8 * 1024 + q.val, by omega⟩) := by
  have h : iblk m c 1 t (ix2 d q) = V m c main_v0 (ix2 d ⟨t.val % 8 * 1024 + q.val, by omega⟩) := by blk_point [iblk, idx_val t]
  rw [h, V_weights]
  rfl

end Blocks

theorem final (c : Dev nD) : (dats m 0 c).arrAt 2 cfg0.N
    = projected (m ((c : Thread nD τ).loc main_arg0)) (m ((c : Thread nD τ).loc main_arg1)) := by
  refine (dats m 0 c).arrAt_eq_of_covers 2 _ (by decide +kernel) fun t _ y => ?_
  blk_simp
  rw [after0_2]
  obtain ⟨i, q, rfl⟩ : ∃ i q, y = ix2 i q := ⟨y 0, y 1, by funext i; fin_cases i <;> rfl⟩
  have ht : t.val < 128 := t.isLt
  have he : ((cfg0.win 2).blk t).view.emb (ix2 i q) = ix2 (⟨t.val / 8 * 1024 + i.val, by omega⟩ : Fin 16384)
      (⟨t.val % 8 * 1024 + q.val, by omega⟩ : Fin 8192) := by
    blk_ext [idx_val t]
  refine Eq.trans ?_ (congrArg (projected _ _) he).symm
  rw [projected_at]
  refine (out_at _ _ i q).trans ?_
  simp only [blk0_at, blk1_at]

end Cert.Kernel4Ideal.Value

end
-- ==== Proof.ProjOut.lean ====
/- Hand-written. The projections out with the gated residual: for the odd layer, whose operand is one array, and for the even layer, whose
   operand is two arrays side by side, the kernel's blocks and the reference read at an index, and their equality. -/
module

public import proofs.«01_k».proof.Proof.Gen.Kernel6Ideal.Value
public import proofs.«01_k».proof.Proof.Gen.Reference6Ideal.Run
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Reference6Ideal.Value

open Cert.Reference6Ideal Cert.Reference6Ideal.Gen Idealize.ShloMosaic Idealize.ShloMosaic.TcCoe Idealize.SL.Sem

variable (o : FVec Ideal S16384x2048 .bf16) (w : FVec Ideal S2048x2048 .f32) (x : FVec Ideal S16384x2048 .f32) (mod : FVec Ideal S8x6x2048 .f32)

/-- The reference's result. -/
def added : FVec Ideal S16384x2048 .f32 :=
  shapeCast _ (addf (shapeCast _ x shapeCasts_S16384x2048_S8x2048x2048) (mulf (broadcastInDim S8x2048x2048 ![0, 1, 2] bcast_S8x1x2048_S8x2048x2048_0_1_2 (broadcastInDim S8x1x2048 ![0, 2] bcast_S8x2048_S8x1x2048_0_2 (extractStridedSlice S8x2048 ![0, 4096] (shapeCast _ mod shapeCasts_S8x6x2048_S8x12288) slices_S8x12288_S8x2048_0_4096))) (Host.dotGeneral dot_S8x2048x2048_S2048x2048_S8x2048x2048_2_0_01_1_n_n none (shapeCast _ (extf .f32 o bitsLt_bf16_f32) shapeCasts_S16384x2048_S8x2048x2048) w))) shapeCasts_S8x2048x2048_S16384x2048

theorem added_at (r : Fin 16384) (q : Fin 2048) :
    added o w x mod (ix2 r q) = x (ix2 r q) + mod (ix3 ⟨r.val / 2048, by omega⟩ 2 q) * ∑ d : Fin 2048, o (ix2 r d) * w (ix2 d q) := by
  have hk : (⟨(4096 + q.val) / 2048, by omega⟩ : Fin 6) = 2 := Fin.ext (show (4096 + q.val) / 2048 = 2 by omega)
  pointwise [added]
  rw [hk]

end Cert.Reference6Ideal.Value

namespace Cert.Kernel6Ideal.Value

open Cert.Kernel6Ideal Cert.Kernel6Ideal.Gen Idealize.ShloMosaic Idealize.ShloMosaic.TcCoe Idealize.SL.Sem
open Idealize.ShloMosaic.Pipeline (Dat)
open Cert.Reference6Ideal.Value (added added_at)

theorem out_at (x0 : Vec Ideal S512x2048 .bf16) (x1 : Vec Ideal S2048x2048 .bf16) (x2 : Vec Ideal S512x2048 .f32) (x3 : Vec Ideal S1x6x2048 .f32)
    (i : Fin 512) (q : Fin 2048) :
    out0_4 x0 x1 x2 x3 (ix2 i q) = x2 (ix2 i q) + x3 (ix3 0 2 q) * ∑ d : Fin 2048, x0 (ix2 i d) * x1 (ix2 d q) := by
  unfold out0_4
  canon_tiles x h
  obtain ⟨i', q', rfl⟩ : ∃ i' q', x = ix2 i' q' := ⟨x 0, x 1, by funext i; fin_cases i <;> rfl⟩
  obtain rfl : i = i' := Fin.ext h0
  obtain rfl : q = q' := Fin.ext h1
  pointwise [k0_pay1]

variable (m : (ℓ : Loc nD τ sig) → Buf (Elt Ideal) ℓ)

/-- Every window's block index at a grid point. -/
theorem idx_val : ∀ t : Fin cfg0.N, win0_0.index t = ![t.val, 0] ∧ win0_1.index t = ![0, 0] ∧ win0_2.index t = ![t.val, 0]
    ∧ win0_3.index t = ![t.val / 4, 0, 0] ∧ win0_4.index t = ![t.val, 0] :=
  (by decide +kernel : ∀ t : Fin grid0.N, _)

section Blocks

variable (c : Dev nD) (t : Fin cfg0.N)

theorem V_weights : V m c main_v0 = (truncf .bf16 (show FVec Ideal S2048x2048 .f32 from m ((c : Thread nD τ).loc main_arg1)) bitsLt_bf16_f32 : FVec Ideal S2048x2048 .bf16) := by
  entry_read
  rfl

theorem blk0_at (i : Fin 512) (d : Fin 2048) : iblk m c 0 t (ix2 i d) = m ((c : Thread nD τ).loc main_arg0)
    (ix2 ⟨t.val * 512 + i.val, by have : t.val < 32 := t.isLt; omega⟩ d) := by
  blk_point [iblk, V, idx_val t]

theorem blk1_at (d q : Fin 2048) : iblk m c 1 t (ix2 d q) = m ((c : Thread nD τ).loc main_arg1) (ix2 d q) := by
  have h : iblk m c 1 t (ix2 d q) = V m c main_v0 (ix2 d q) := by blk_point [iblk, idx_val t]
  rw [h, V_weights]
  rfl

theorem blk2_at (i : Fin 512) (d : Fin 2048) : iblk m c 2 t (ix2 i d) = m ((c : Thread nD τ).loc main_arg2)
    (ix2 ⟨t.val * 512 + i.val, by have : t.val < 32 := t.isLt; omega⟩ d) := by
  blk_point [iblk, V, idx_val t]

theorem blk3_at (k : Fin 6) (q : Fin 2048) : iblk m c 3 t (ix3 0 k q) = m ((c : Thread nD τ).loc main_arg3)
    (ix3 ⟨t.val / 4, by have : t.val < 32 := t.isLt; omega⟩ k q) := by
  blk_point [iblk, V, idx_val t]

end Blocks

theorem final (c : Dev nD) : (dats m 0 c).arrAt 4 cfg0.N
    = added (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t _ y => ?_
  blk_simp
  rw [after0_4]
  obtain ⟨i, q, rfl⟩ : ∃ i q, y = ix2 i q := ⟨y 0, y 1, by funext i; fin_cases i <;> rfl⟩
  have ht : t.val < 32 := t.isLt
  have he : ((cfg0.win 4).blk t).view.emb (ix2 i q) = ix2 (⟨t.val * 512 + i.val, by omega⟩ : Fin 16384) q := by
    blk_ext [idx_val t]
  have hb : (⟨(t.val * 512 + i.val) / 2048, by omega⟩ : Fin 8) = ⟨t.val / 4, by omega⟩ :=
    Fin.ext (show (t.val * 512 + i.val) / 2048 = t.val / 4 by omega)
  refine Eq.trans ?_ (congrArg (added _ _ _ _) he).symm
  rw [added_at, hb]
  refine (out_at _ _ _ _ i q).trans ?_
  simp only [blk0_at, blk1_at, blk2_at, blk3_at]

end Cert.Kernel6Ideal.Value

namespace Cert.Reference5Ideal.Value

open Cert.Reference5Ideal Cert.Reference5Ideal.Gen Idealize.ShloMosaic Idealize.ShloMosaic.TcCoe Idealize.SL.Sem

variable (a b : FVec Ideal S16384x1024 .bf16) (w : FVec Ideal S2048x2048 .f32) (x : FVec Ideal S16384x2048 .f32) (mod : FVec Ideal S8x6x2048 .f32)

/-- The reference's result. -/
def added : FVec Ideal S16384x2048 .f32 :=
  shapeCast _ (addf (shapeCast _ x shapeCasts_S16384x2048_S8x2048x2048) (mulf (broadcastInDim S8x2048x2048 ![0, 1, 2] bcast_S8x1x2048_S8x2048x2048_0_1_2 (broadcastInDim S8x1x2048 ![0, 2] bcast_S8x2048_S8x1x2048_0_2 (extractStridedSlice S8x2048 ![0, 4096] (shapeCast _ mod shapeCasts_S8x6x2048_S8x12288) slices_S8x12288_S8x2048_0_4096))) (Host.dotGeneral dot_S8x2048x2048_S2048x2048_S8x2048x2048_2_0_01_1_n_n none (concatenate S8x2048x2048 2 [⟨S8x2048x1024, (shapeCast _ (extf .f32 a bitsLt_bf16_f32) shapeCasts_S16384x1024_S8x2048x1024)⟩, ⟨S8x2048x1024, (shapeCast _ (extf .f32 b bitsLt_bf16_f32) shapeCasts_S16384x1024_S8x2048x1024)⟩] concatenates_S8x2048x1024_S8x2048x1024_S8x2048x2048_d2) w))) shapeCasts_S8x2048x2048_S16384x2048

theorem added_at (r : Fin 16384) (q : Fin 2048) :
    added a b w x mod (ix2 r q) = x (ix2 r q) + mod (ix3 ⟨r.val / 2048, by omega⟩ 2 q)
      * ((∑ d : Fin 1024, a (ix2 r d) * w (ix2 ⟨d.val, by omega⟩ q)) + ∑ d : Fin 1024, b (ix2 r d) * w (ix2 ⟨1024 + d.val, by omega⟩ q)) := by
  have hk : (⟨(4096 + q.val) / 2048, by omega⟩ : Fin 6) = 2 := Fin.ext (show (4096 + q.val) / 2048 = 2 by omega)
  pointwise [added]
  rw [hk]

end Cert.Reference5Ideal.Value

namespace Cert.Kernel5Ideal.Value

open Cert.Kernel5Ideal Cert.Kernel5Ideal.Gen Idealize.ShloMosaic Idealize.ShloMosaic.TcCoe Idealize.SL.Sem
open Idealize.ShloMosaic.Pipeline (Dat)
open Cert.Reference5Ideal.Value (added added_at)

theorem out_at (x0 x1 : Vec Ideal S512x1024 .bf16) (x2 : Vec Ideal S2048x2048 .bf16) (x3 : Vec Ideal S512x2048 .f32) (x4 : Vec Ideal S1x6x2048 .f32)
    (i : Fin 512) (q : Fin 2048) :
    out0_5 x0 x1 x2 x3 x4 (ix2 i q) = x3 (ix2 i q) + x4 (ix3 0 2 q)
      * ((∑ d : Fin 1024, x0 (ix2 i d) * x2 (ix2 ⟨d.val, by omega⟩ q)) + ∑ d : Fin 1024, x1 (ix2 i d) * x2 (ix2 ⟨1024 + d.val, by omega⟩ q)) := by
  unfold out0_5
  canon_tiles x h
  obtain ⟨i', q', rfl⟩ : ∃ i' q', x = ix2 i' q' := ⟨x 0, x 1, by funext i; fin_cases i <;> rfl⟩
  obtain rfl : i = i' := Fin.ext h0
  obtain rfl : q = q' := Fin.ext h1
  pointwise [k0_pay1]

variable (m : (ℓ : Loc nD τ sig) → Buf (Elt Ideal) ℓ)

/-- Every window's block index at a grid point. -/
theorem idx_val : ∀ t : Fin cfg0.N, win0_0.index t = ![t.val, 0] ∧ win0_1.index t = ![t.val, 0] ∧ win0_2.index t = ![0, 0]
    ∧ win0_3.index t = ![t.val, 0] ∧ win0_4.index t = ![t.val / 4, 0, 0] ∧ win0_5.index t = ![t.val, 0] :=
  (by decide +kernel : ∀ t : Fin grid0.N, _)

section Blocks

variable (c : Dev nD) (t : Fin cfg0.N)

theorem V_weights : V m c main_v0 = (truncf .bf16 (show FVec Ideal S2048x2048 .f32 from m ((c : Thread nD τ).loc main_arg2)) bitsLt_bf16_f32 : FVec Ideal S2048x2048 .bf16) := by
  entry_read
  rfl

theorem blk0_at (i : Fin 512) (d : Fin 1024) : iblk m c 0 t (ix2 i d) = m ((c : Thread nD τ).loc main_arg0)
    (ix2 ⟨t.val * 512 + i.val, by have : t.val < 32 := t.isLt; omega⟩ d) := by
  blk_point [iblk, V, idx_val t]

theorem blk1_at (i : Fin 512) (d : Fin 1024) : iblk m c 1 t (ix2 i d) = m ((c : Thread nD τ).loc main_arg1)
    (ix2 ⟨t.val * 512 + i.val, by have : t.val < 32 := t.isLt; omega⟩ d) := by
  blk_point [iblk, V, idx_val t]

theorem blk2_at (d q : Fin 2048) : iblk m c 2 t (ix2 d q) = m ((c : Thread nD τ).loc main_arg2) (ix2 d q) := by
  have h : iblk m c 2 t (ix2 d q) = V m c main_v0 (ix2 d q) := by blk_point [iblk, idx_val t]
  rw [h, V_weights]
  rfl

theorem blk3_at (i : Fin 512) (d : Fin 2048) : iblk m c 3 t (ix2 i d) = m ((c : Thread nD τ).loc main_arg3)
    (ix2 ⟨t.val * 512 + i.val, by have : t.val < 32 := t.isLt; omega⟩ d) := by
  blk_point [iblk, V, idx_val t]

theorem blk4_at (k : Fin 6) (q : Fin 2048) : iblk m c 4 t (ix3 0 k q) = m ((c : Thread nD τ).loc main_arg4)
    (ix3 ⟨t.val / 4, by have : t.val < 32 := t.isLt; omega⟩ k q) := by
  blk_point [iblk, V, idx_val t]

end Blocks

theorem final (c : Dev nD) : (dats m 0 c).arrAt 5 cfg0.N
    = added (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  obtain ⟨i, q, rfl⟩ : ∃ i q, y = ix2 i q := ⟨y 0, y 1, by funext i; fin_cases i <;> rfl⟩
  have ht : t.val < 32 := t.isLt
  have he : ((cfg0.win 5).blk t).view.emb (ix2 i q) = ix2 (⟨t.val * 512 + i.val, by omega⟩ : Fin 16384) q := by
    blk_ext [idx_val t]
  have hb : (⟨(t.val * 512 + i.val) / 2048, by omega⟩ : Fin 8) = ⟨t.val / 4, by omega⟩ :=
    Fin.ext (show (t.val * 512 + i.val) / 2048 = t.val / 4 by omega)
  refine Eq.trans ?_ (congrArg (added _ _ _ _ _) he).symm
  rw [added_at, hb]
  refine (out_at _ _ _ _ _ i q).trans ?_
  simp only [blk0_at, blk1_at, blk2_at, blk3_at, blk4_at]

end Cert.Kernel5Ideal.Value

end
-- ==== Proof.Norm.lean ====
/- Hand-written. The normalization with the modulation: the kernel's blocks and the reference read at an index, and their equality. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Modulate

open Idealize.ShloMosaic

/-- One element of a normalized and modulated row: the row's entry over its root mean square, times its gain, scaled and
    shifted. -/
def modulated (row : Fin 2048 → EReal) (gain scale shift : EReal) (q : Fin 2048) : EReal :=
  row q * Ideal.rsqrt (Ideal.div (∑ d, row d * row d) (Ideal.ofBits .f32 0x45000000#32) + Ideal.ofBits .f32 0x358637BD#32) * gain
    * (Ideal.ofBits .f32 0x3F800000#32 + scale) + shift

end Cert.Modulate

namespace Cert.Reference7Ideal.Value

open Cert.Reference7Ideal Cert.Reference7Ideal.Gen Idealize.ShloMosaic Idealize.ShloMosaic.TcCoe Idealize.SL.Sem
open Cert.Modulate

variable (x : FVec Ideal S16384x2048 .f32) (g : FVec Ideal S2048 .f32) (mod : FVec Ideal S8x6x2048 .f32)

/-- The reference's result. -/
def normed : FVec Ideal S16384x2048 .bf16 :=
  shapeCast _ (truncf .bf16 (addf (mulf (mulf (mulf (shapeCast _ x shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ x shapeCasts_S16384x2048_S8x2048x2048) (shapeCast _ x shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] (shapeCast _ mod shapeCasts_S8x6x2048_S8x12288) slices_S8x12288_S8x2048_0_2048))))) (broadcastInDim S8x2048x2048 ![0, 1, 2] bcast_S8x1x2048_S8x2048x2048_0_1_2 (broadcastInDim S8x1x2048 ![0, 2] bcast_S8x2048_S8x1x2048_0_2 (extractStridedSlice S8x2048 ![0, 0] (shapeCast _ mod shapeCasts_S8x6x2048_S8x12288) slices_S8x12288_S8x2048_0_0)))) bitsLt_bf16_f32) shapeCasts_S8x2048x2048_S16384x2048

theorem normed_at (r : Fin 16384) (q : Fin 2048) : normed x g mod (ix2 r q) = modulated (fun d => x (ix2 r d)) (g (ix1 q))
    (mod (ix3 ⟨r.val / 2048, by omega⟩ 1 q)) (mod (ix3 ⟨r.val / 2048, by omega⟩ 0 q)) q := by
  have hk : (⟨(2048 + q.val) / 2048, by omega⟩ : Fin 6) = 1 := Fin.ext (show (2048 + q.val) / 2048 = 1 by omega)
  have h0 : (⟨q.val / 2048, by omega⟩ : Fin 6) = 0 := Fin.ext (show q.val / 2048 = 0 by omega)
  have hq : (⟨q.val % 2048, by omega⟩ : Fin 2048) = q := Fin.ext (show q.val % 2048 = q.val by omega)
  pointwise [normed, modulated]
  rw [hk, h0, hq]

end Cert.Reference7Ideal.Value

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Modulate
open Cert.Reference7Ideal.Value (normed normed_at)

theorem out_at (x0 : Vec Ideal S512x2048 .f32) (x1 : Vec Ideal S1x2048 .f32) (x2 : Vec Ideal S1x6x2048 .f32) (i : Fin 512) (q : Fin 2048) :
    out0_3 x0 x1 x2 (ix2 i q) = modulated (fun d => x0 (ix2 i d)) (x1 (ix2 0 q)) (x2 (ix3 0 1 q)) (x2 (ix3 0 0 q)) q := by
  unfold out0_3
  canon_tiles x h
  obtain ⟨i', q', rfl⟩ : ∃ i' q', x = ix2 i' q' := ⟨x 0, x 1, by funext i; fin_cases i <;> rfl⟩
  obtain rfl : i = i' := Fin.ext h0
  obtain rfl : q = q' := Fin.ext h1
  pointwise [k0_pay1, modulated]

variable (m : (ℓ : Loc nD τ sig) → Buf (Elt Ideal) ℓ)

/-- Every window's block index at a grid point. -/
theorem idx_val : ∀ t : Fin cfg0.N, win0_0.index t = ![t.val, 0] ∧ win0_1.index t = ![0, 0] ∧ win0_2.index t = ![t.val / 4, 0, 0]
    ∧ win0_3.index t = ![t.val, 0] :=
  (by decide +kernel : ∀ t : Fin grid0.N, _)

section Blocks

variable (c : Dev nD) (t : Fin cfg0.N)

theorem V_gain : V m c main_v0 = (shapeCast S1x2048 (m ((c : Thread nD τ).loc main_arg1)) shapeCasts_S2048_S1x2048 : Vec Ideal S1x2048 .f32) := by
  entry_read
  rfl

theorem blk0_at (i : Fin 512) (d : Fin 2048) : iblk m c 0 t (ix2 i d) = m ((c : Thread nD τ).loc main_arg0)
    (ix2 ⟨t.val * 512 + i.val, by have : t.val < 32 := t.isLt; omega⟩ d) := by
  blk_point [iblk, V, idx_val t]

theorem blk1_at (q : Fin 2048) : iblk m c 1 t (ix2 0 q) = m ((c : Thread nD τ).loc main_arg1) (ix1 q) := by
  have h : iblk m c 1 t (ix2 0 q) = V m c main_v0 (ix2 0 q) := by blk_point [iblk, idx_val t]
  rw [h, V_gain]
  pointwise

theorem blk2_at (k : Fin 6) (q : Fin 2048) : iblk m c 2 t (ix3 0 k q) = m ((c : Thread nD τ).loc main_arg2)
    (ix3 ⟨t.val / 4, by have : t.val < 32 := t.isLt; omega⟩ k q) := by
  blk_point [iblk, V, idx_val t]

end Blocks

theorem final (c : Dev nD) : (dats m 0 c).arrAt 3 cfg0.N
    = normed (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  obtain ⟨i, q, rfl⟩ : ∃ i q, y = ix2 i q := ⟨y 0, y 1, by funext i; fin_cases i <;> rfl⟩
  have ht : t.val < 32 := t.isLt
  have he : ((cfg0.win 3).blk t).view.emb (ix2 i q) = ix2 (⟨t.val * 512 + i.val, by omega⟩ : Fin 16384) q := by
    blk_ext [idx_val t]
  have hb : (⟨(t.val * 512 + i.val) / 2048, by omega⟩ : Fin 8) = ⟨t.val / 4, by omega⟩ :=
    Fin.ext (show (t.val * 512 + i.val) / 2048 = t.val / 4 by omega)
  refine Eq.trans ?_ (congrArg (normed _ _ _) he).symm
  rw [normed_at, hb]
  refine (out_at _ _ _ i q).trans ?_
  simp only [blk0_at, blk1_at, blk2_at]

end Cert.Kernel7Ideal.Value

end
-- ==== Proof.RouteNorm.lean ====
/- Hand-written. The norm before the experts, with the modulation, which the routing's call returns first: the kernel's blocks and
   the reference read at an index, and their equality. -/
module

public import proofs.«01_k».proof.Proof.Gen.Kernel10Ideal.Value
public import proofs.«01_k».proof.Proof.Gen.Reference10Ideal.Run
public import proofs.«01_k».proof.Proof.Norm

@[expose] public section

set_option maxRecDepth 16384

noncomputable section

namespace Cert.Reference10Ideal.Value

open Cert.Reference10Ideal Cert.Reference10Ideal.Gen Idealize.ShloMosaic Idealize.ShloMosaic.TcCoe Idealize.SL.Sem
open Cert.Modulate

variable (x : FVec Ideal S16384x2048 .f32) (g : FVec Ideal S2048 .f32) (mod : FVec Ideal S8x6x2048 .f32)

/-- The reference's result. -/
def normed : FVec Ideal S16384x2048 .f32 :=
  shapeCast _ (addf (mulf (mulf (mulf (shapeCast _ x shapeCasts_S16384x2048_S8x2048x2048) (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf (shapeCast _ x shapeCasts_S16384x2048_S8x2048x2048) (shapeCast _ x shapeCasts_S16384x2048_S8x2048x2048)) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S8x1x2048_S8x2048x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 8192] (shapeCast _ mod shapeCasts_S8x6x2048_S8x12288) slices_S8x12288_S8x2048_0_8192))))) (broadcastInDim S8x2048x2048 ![0, 1, 2] bcast_S8x1x2048_S8x2048x2048_0_1_2 (broadcastInDim S8x1x2048 ![0, 2] bcast_S8x2048_S8x1x2048_0_2 (extractStridedSlice S8x2048 ![0, 6144] (shapeCast _ mod shapeCasts_S8x6x2048_S8x12288) slices_S8x12288_S8x2048_0_6144)))) shapeCasts_S8x2048x2048_S16384x2048

theorem normed_at (r : Fin 16384) (q : Fin 2048) : normed x g mod (ix2 r q) = modulated (fun d => x (ix2 r d)) (g (ix1 q))
    (mod (ix3 ⟨r.val / 2048, by omega⟩ 4 q)) (mod (ix3 ⟨r.val / 2048, by omega⟩ 3 q)) q := by
  have h4 : (⟨(8192 + q.val) / 2048, by omega⟩ : Fin 6) = 4 := Fin.ext (show (8192 + q.val) / 2048 = 4 by omega)
  have h3 : (⟨(6144 + q.val) / 2048, by omega⟩ : Fin 6) = 3 := Fin.ext (show (6144 + q.val) / 2048 = 3 by omega)
  have hq4 : (⟨(8192 + q.val) % 2048, by omega⟩ : Fin 2048) = q := Fin.ext (show (8192 + q.val) % 2048 = q.val by omega)
  have hq3 : (⟨(6144 + q.val) % 2048, by omega⟩ : Fin 2048) = q := Fin.ext (show (6144 + q.val) % 2048 = q.val by omega)
  have hq : (⟨q.val % 2048, by omega⟩ : Fin 2048) = q := Fin.ext (show q.val % 2048 = q.val by omega)
  pointwise [normed, modulated]
  simp only [h4, h3, hq4, hq3, hq]

end Cert.Reference10Ideal.Value

namespace Cert.Kernel10Ideal.Value

open Cert.Kernel10Ideal Cert.Kernel10Ideal.Gen Idealize.ShloMosaic Idealize.ShloMosaic.TcCoe Idealize.SL.Sem
open Idealize.ShloMosaic.Pipeline (Dat)
open Cert.Modulate
open Cert.Reference10Ideal.Value (normed normed_at)

section Body

variable (c : Dev nD) (p : grid0.Coords) (a1 : Memref sig .tc .vmem S512x2048 .f32) (h1 : a1.IsWhole) (a2 : Memref sig .tc .vmem S1x2048 .f32)
  (h2 : a2.IsWhole) (a3 : Memref sig .tc .vmem S1x6x2048 .f32) (h3 : a3.IsWhole) (a4 : Memref sig .tc .vmem S32x2048 .bf16) (h4 : a4.IsWhole)
  (a5 : Memref sig .tc .vmem S16x2048 .bf16) (h5 : a5.IsWhole) (a6 : Memref sig .tc .vmem S16x1 .f32) (h6 : a6.IsWhole)
  (a7 : Memref sig .tc .vmem S512x2048 .f32) (h7 : a7.IsWhole) (a8 : Memref sig .tc .vmem S2x512 .i32) (h8 : a8.IsWhole)
  (a9 : Memref sig .tc .vmem S2x512 .f32) (h9 : a9.IsWhole) (a10 : Memref sig .tc .vmem S2x512 .i32) (h10 : a10.IsWhole)
  (a11 : Memref sig .tc .vmem S16x128 .i32) (h11 : a11.IsWhole) (a12 : Memref sig .tc .vmem S16x1 .f32) (h12 : a12.IsWhole)
  (x0 : Vec Ideal S512x2048 .f32) (x1 : Vec Ideal S1x2048 .f32) (x2 : Vec Ideal S1x6x2048 .f32) (x3 : Vec Ideal S32x2048 .bf16)
  (x4 : Vec Ideal S16x2048 .bf16) (x5 : Vec Ideal S16x1 .f32)

theorem outA_at (hc : cond0_0 p) (i : Fin 512) (q : Fin 2048) :
    out0_A_6 c p a1 h1 a2 h2 a3 h3 a4 h4 a5 h5 a6 h6 a7 h7 a8 h8 a9 h9 a10 h10 a11 h11 a12 h12 hc x0 x1 x2 x3 x4 x5 (ix2 i q)
      = modulated (fun d => x0 (ix2 i d)) (x1 (ix2 0 q)) (x2 (ix3 0 4 q)) (x2 (ix3 0 3 q)) q := by
  frame_out
  pointwise [k0_pay4, modulated]

theorem outB_at (hc : ¬cond0_0 p) (xs : Vec Ideal S16x1 .f32) (i : Fin 512) (q : Fin 2048) :
    out0_B_6 c p a1 h1 a2 h2 a3 h3 a4 h4 a5 h5 a6 h6 a7 h7 a8 h8 a9 h9 a10 h10 a11 h11 a12 h12 hc x0 x1 x2 x3 x4 x5 xs (ix2 i q)
      = modulated (fun d => x0 (ix2 i d)) (x1 (ix2 0 q)) (x2 (ix3 0 4 q)) (x2 (ix3 0 3 q)) q := by
  frame_out
  pointwise [k0_pay4, modulated]

end Body

variable (m : (ℓ : Loc nD τ sig) → Buf (Elt Ideal) ℓ)

/-- The block indices of the windows the norm reads and writes, at a grid point. -/
theorem idx_val : ∀ t : Fin cfg0.N, win0_0.index t = ![t.val, 0] ∧ win0_1.index t = ![0, 0] ∧ win0_2.index t = ![t.val / 4, 0, 0]
    ∧ win0_6.index t = ![t.val, 0] :=
  (by decide +kernel : ∀ t : Fin grid0.N, _)

section Blocks

variable (c : Dev nD) (t : Fin cfg0.N)

theorem V_gain : V m c main_v6 = (shapeCast S1x2048 (m ((c : Thread nD τ).loc main_arg1)) shapeCasts_S2048_S1x2048 : Vec Ideal S1x2048 .f32) := by
  entry_read
  rfl

theorem blk0_at (i : Fin 512) (d : Fin 2048) : iblk m c 0 t (ix2 i d) = m ((c : Thread nD τ).loc main_arg0)
    (ix2 ⟨t.val * 512 + i.val, by have : t.val < 32 := t.isLt; omega⟩ d) := by
  have h : iblk m c 0 t (ix2 i d) = V m c main_arg0 (ix2 ⟨t.val * 512 + i.val, by have : t.val < 32 := t.isLt; omega⟩ d) := by
    blk_point [iblk, idx_val t]
  rw [h, V_main_arg0]

theorem blk1_at (q : Fin 2048) : iblk m c 1 t (ix2 0 q) = m ((c : Thread nD τ).loc main_arg1) (ix1 q) := by
  have h : iblk m c 1 t (ix2 0 q) = V m c main_v6 (ix2 0 q) := by blk_point [iblk, idx_val t]
  rw [h, V_gain]
  pointwise

theorem blk2_at (k : Fin 6) (q : Fin 2048) : iblk m c 2 t (ix3 0 k q) = m ((c : Thread nD τ).loc main_arg2)
    (ix3 ⟨t.val / 4, by have : t.val < 32 := t.isLt; omega⟩ k q) := by
  have h : iblk m c 2 t (ix3 0 k q) = V m c main_arg2 (ix3 ⟨t.val / 4, by have : t.val < 32 := t.isLt; omega⟩ k q) := by
    blk_point [iblk, idx_val t]
  rw [h, V_main_arg2]

end Blocks

/-- What a grid point leaves in the first output's block. -/
theorem left_at (c : Dev nD) (t : Fin cfg0.N) (i : Fin 512) (q : Fin 2048) : (outsAt0 m c t.val t.isLt).1 (ix2 i q)
    = modulated (fun d => iblk m c 0 t (ix2 i d)) (iblk m c 1 t (ix2 0 q)) (iblk m c 2 t (ix3 0 4 q)) (iblk m c 2 t (ix3 0 3 q)) q := by
  by_cases h : t.val % 32 = 0
  · rw [outsAt0_A m c t h]
    dsimp only
    exact outA_at _ _ _ _ _ _ _ _ _ _ _ _ _ _ _ _ _ _ _ _ _ _ _ _ _ _ _ _ _ _ _ _ _ i q
  · rw [outsAt0_B m c t h]
    dsimp only
    exact outB_at _ _ _ _ _ _ _ _ _ _ _ _ _ _ _ _ _ _ _ _ _ _ _ _ _ _ _ _ _ _ _ _ _ _ i q

theorem final (c : Dev nD) : (dats m 0 c).arrAt 6 cfg0.N
    = normed (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  obtain ⟨i, q, rfl⟩ : ∃ i q, y = ix2 i q := ⟨y 0, y 1, by funext i; fin_cases i <;> rfl⟩
  have ht : t.val < 32 := t.isLt
  have he : ((cfg0.win 6).blk t).view.emb (ix2 i q) = ix2 (⟨t.val * 512 + i.val, by omega⟩ : Fin 16384) q := by
    blk_ext [idx_val t]
  have hb : (⟨(t.val * 512 + i.val) / 2048, by omega⟩ : Fin 8) = ⟨t.val / 4, by omega⟩ :=
    Fin.ext (show (t.val * 512 + i.val) / 2048 = t.val / 4 by omega)
  refine Eq.trans ?_ (congrArg (normed _ _ _) he).symm
  rw [normed_at, hb]
  refine (left_at m c t i q).trans ?_
  simp only [blk0_at, blk1_at, blk2_at]

end Cert.Kernel10Ideal.Value

end
-- ==== Proof.RotaryRef.lean ====
/- Hand-written. The odd layer's projection in, with the rotation of its queries and keys by position: the reference, read at an index. -/
module

public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Reference8Ideal.Value

open Cert.Reference8Ideal Cert.Reference8Ideal.Gen Idealize.ShloMosaic Idealize.ShloMosaic.TcCoe Idealize.SL.Sem

/-- The angles: a position times the lane pair's frequency. -/
def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

variable (h : FVec Ideal S16384x2048 .bf16) (w : FVec Ideal S2048x6144 .f32)

/-- The projection. -/
def product : FVec Ideal S8x2048x6144 .f32 :=
  Host.dotGeneral dot_S8x2048x2048_S2048x6144_S8x2048x6144_2_0_01_1_n_n none (shapeCast _ (extf .f32 h bitsLt_bf16_f32) shapeCasts_S16384x2048_S8x2048x2048) w

/-- The rotation of every head's first 32 lanes. -/
def rotated (x : FVec Ideal S8x2048x16x128 .f32) : FVec Ideal S8x2048x16x128 .f32 :=
  concatenate S8x2048x16x128 3 [⟨S8x2048x16x16, subf (mulf (extractStridedSlice S8x2048x16x16 ![0, 0, 0, 0] x slices_S8x2048x16x128_S8x2048x16x16_0_0_0_0) (broadcastInDim S8x2048x16x16 ![0, 1, 2, 3] bcast_S1x2048x1x16_S8x2048x16x16_0_1_2_3 (broadcastInDim S1x2048x1x16 ![1, 3] bcast_S2048x16_S1x2048x1x16_1_3 (Host.cos angles)))) (mulf (extractStridedSlice S8x2048x16x16 ![0, 0, 0, 16] x slices_S8x2048x16x128_S8x2048x16x16_0_0_0_16) (broadcastInDim S8x2048x16x16 ![0, 1, 2, 3] bcast_S1x2048x1x16_S8x2048x16x16_0_1_2_3 (broadcastInDim S1x2048x1x16 ![1, 3] bcast_S2048x16_S1x2048x1x16_1_3 (Host.sin angles))))⟩,
    ⟨S8x2048x16x16, addf (mulf (extractStridedSlice S8x2048x16x16 ![0, 0, 0, 0] x slices_S8x2048x16x128_S8x2048x16x16_0_0_0_0) (broadcastInDim S8x2048x16x16 ![0, 1, 2, 3] bcast_S1x2048x1x16_S8x2048x16x16_0_1_2_3 (broadcastInDim S1x2048x1x16 ![1, 3] bcast_S2048x16_S1x2048x1x16_1_3 (Host.sin angles)))) (mulf (extractStridedSlice S8x2048x16x16 ![0, 0, 0, 16] x slices_S8x2048x16x128_S8x2048x16x16_0_0_0_16) (broadcastInDim S8x2048x16x16 ![0, 1, 2, 3] bcast_S1x2048x1x16_S8x2048x16x16_0_1_2_3 (broadcastInDim S1x2048x1x16 ![1, 3] bcast_S2048x16_S1x2048x1x16_1_3 (Host.cos angles))))⟩,
    ⟨S8x2048x16x96, extractStridedSlice S8x2048x16x96 ![0, 0, 0, 32] x slices_S8x2048x16x128_S8x2048x16x96_0_0_0_32⟩] concatenates_S8x2048x16x16_S8x2048x16x16_S8x2048x16x96_S8x2048x16x128_d3

/-- The reference's result as a function of the projection. -/
def assembled (p : FVec Ideal S8x2048x6144 .f32) : FVec Ideal S16384x6144 .bf16 :=
  shapeCast _ (truncf .bf16 (concatenate S8x2048x6144 2 [⟨S8x2048x2048, shapeCast _ (rotated (shapeCast _ (extractStridedSlice S8x2048x2048 ![0, 0, 0] p slices_S8x2048x6144_S8x2048x2048_0_0_0) shapeCasts_S8x2048x2048_S8x2048x16x128)) shapeCasts_S8x2048x16x128_S8x2048x2048⟩,
    ⟨S8x2048x2048, shapeCast _ (rotated (shapeCast _ (extractStridedSlice S8x2048x2048 ![0, 0, 2048] p slices_S8x2048x6144_S8x2048x2048_0_0_2048) shapeCasts_S8x2048x2048_S8x2048x16x128)) shapeCasts_S8x2048x16x128_S8x2048x2048⟩,
    ⟨S8x2048x2048, extractStridedSlice S8x2048x2048 ![0, 0, 4096] p slices_S8x2048x6144_S8x2048x2048_0_0_4096⟩] concatenates_S8x2048x2048_S8x2048x2048_S8x2048x2048_S8x2048x6144_d2 : FVec Ideal S8x2048x6144 .f32) bitsLt_bf16_f32) shapeCasts_S8x2048x6144_S16384x6144

theorem res_eq (m : (ℓ : Loc nD τ sig) → Buf (Elt Ideal) ℓ) (c : Dev nD) :
    res_out0 m c = assembled (product (m ((c.tc : Thread nD τ).loc main_arg0)) (m ((c.tc : Thread nD τ).loc main_arg1))) := rfl

theorem product_at (b : Fin 8) (t : Fin 2048) (q : Fin 6144) :
    product h w (ix3 b t q) = ∑ d : Fin 2048, h (ix2 ⟨b.val * 2048 + t.val, by omega⟩ d) * w (ix2 d q) := by
  pointwise [product]

/-- The angle of a position and a lane pair. -/
def angle (t : Fin 2048) (l : Fin 16) : EReal :=
  FloatOps.sitofp (F := Ideal) .f32 (BitVec.ofNat 32 t.val) * Ideal.pow (Ideal.ofBits .f32 0x48F42400#32)
    (Ideal.div (-FloatOps.sitofp (F := Ideal) .f32 (BitVec.ofNat 32 l.val)) (Ideal.ofBits .f32 0x41800000#32))

theorem angles_at (t : Fin 2048) (l : Fin 16) : angles (ix2 t l) = angle t l := by
  pointwise [angles, angle]

/-- A head's lanes after the rotation: the first sixteen and the next sixteen are turned as pairs, the others stay. -/
def turned (seg : Fin 128 → EReal) (t : Fin 2048) (l : Fin 128) : EReal :=
  if h : l.val < 16 then seg l * Ideal.cos (angle t ⟨l.val, h⟩) - seg ⟨16 + l.val, by omega⟩ * Ideal.sin (angle t ⟨l.val, h⟩)
  else if h' : l.val - 16 < 16 then
    seg ⟨l.val - 16, by omega⟩ * Ideal.sin (angle t ⟨l.val - 16, h'⟩) + seg ⟨16 + (l.val - 16), by omega⟩ * Ideal.cos (angle t ⟨l.val - 16, h'⟩)
  else seg ⟨32 + (l.val - 16 - 16), by omega⟩

theorem rotated_at (x : FVec Ideal S8x2048x16x128 .f32) (b : Fin 8) (t : Fin 2048) (n : Fin 16) (l : Fin 128) :
    rotated x (ix4 b t n l) = turned (fun k => x (ix4 b t n k)) t l := by
  pointwise [rotated, angles_at]
  rfl

/-- The reference at a query's or a key's column. -/
theorem assembled_turned (p : FVec Ideal S8x2048x6144 .f32) (r : Fin 16384) (q : Fin 6144) (hq : q.val < 4096) :
    assembled p (ix2 r q) = turned (fun k => p (ix3 ⟨r.val / 2048, by omega⟩ ⟨r.val % 2048, by omega⟩ ⟨q.val / 128 * 128 + k.val, by omega⟩))
      ⟨r.val % 2048, by omega⟩ ⟨q.val % 128, by omega⟩ := by
  pointwise [assembled]
  by_cases h0 : q.val < 2048
  · refine (dif_pos h0).trans ((rotated_at _ _ _ _ _).trans (congrArg (fun f => turned f _ _) (funext fun k => ?_)))
    pointwise
  · refine (dif_neg h0).trans ((dif_pos (show q.val - 2048 < 2048 by omega)).trans ((rotated_at _ _ _ _ _).trans ?_))
    have hl : (⟨(q.val - 2048) % 128, by omega⟩ : Fin 128) = ⟨q.val % 128, by omega⟩ := Fin.ext (show (q.val - 2048) % 128 = q.val % 128 by omega)
    rw [hl]
    refine congrArg (fun f => turned f _ _) (funext fun k => ?_)
    pointwise
    have e : (⟨2048 + ((q.val - 2048) / 128 * 128 + k.val), by omega⟩ : Fin 6144) = ⟨q.val / 128 * 128 + k.val, by omega⟩ :=
      Fin.ext (show 2048 + ((q.val - 2048) / 128 * 128 + k.val) = q.val / 128 * 128 + k.val by omega)
    rw [e]

/-- The reference at a value's column. -/
theorem assembled_plain (p : FVec Ideal S8x2048x6144 .f32) (r : Fin 16384) (q : Fin 6144) (hq : 4096 ≤ q.val) :
    assembled p (ix2 r q) = p (ix3 ⟨r.val / 2048, by omega⟩ ⟨r.val % 2048, by omega⟩ q) := by
  pointwise [assembled]
  refine (dif_neg (show ¬ q.val < 2048 by omega)).trans ((dif_neg (show ¬ q.val - 2048 < 2048 by omega)).trans ?_)
  have e : (⟨4096 + (q.val - 2048 - 2048), by omega⟩ : Fin 6144) = q := Fin.ext (show 4096 + (q.val - 2048 - 2048) = q.val by omega)
  rw [e]

end Cert.Reference8Ideal.Value

end
-- ==== Proof.Rotary.lean ====
/- Hand-written. The odd layer's projection in, with the rotation of its queries and keys by position: the kernel's blocks read at an
   index, and their equality with the reference's. -/
module

public import proofs.«01_k».proof.Proof.Gen.Kernel8Ideal.Value
public import proofs.«01_k».proof.Proof.RotaryRef
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Idealize.ShloMosaic.StableHlo

variable (x0 : Vec Ideal S1024x2048 .bf16) (x1 : Vec Ideal S2048x1024 .bf16) (x2 x3 x4 : Vec Ideal S1024x128 .f32)

/-- A token's product with a column of the weights' block. -/
def dot (i : Fin 1024) (k : Fin 1024) : EReal := ∑ d : Fin 2048, x0 (ix2 i d) * x1 (ix2 d k)

/-- A rotary block at an index: the product with its own column by the first table, with the columns sixteen further and
    sixteen before, cyclically in the head, by the other two. -/
def spun (i q : Fin 1024) : EReal :=
  dot x0 x1 i q * x2 (ix2 i ⟨q.val % 128, by omega⟩)
    + dot x0 x1 i ⟨q.val / 128 * 128 + (q.val % 128 + 16) % 128, by omega⟩ * x3 (ix2 i ⟨q.val % 128, by omega⟩)
    + dot x0 x1 i ⟨q.val / 128 * 128 + (q.val % 128 + 112) % 128, by omega⟩ * x4 (ix2 i ⟨q.val % 128, by omega⟩)

variable (c : Dev nD) (g : grid0.Coords) (a2 : Memref sig .tc .vmem S1024x2048 .bf16) (h2 : a2.IsWhole) (a3 : Memref sig .tc .vmem S2048x1024 .bf16)
  (h3 : a3.IsWhole) (a4 : Memref sig .tc .vmem S1024x128 .f32) (h4 : a4.IsWhole) (a5 : Memref sig .tc .vmem S1024x128 .f32) (h5 : a5.IsWhole)
  (a6 : Memref sig .tc .vmem S1024x128 .f32) (h6 : a6.IsWhole) (a7 : Memref sig .tc .vmem S1024x1024 .bf16) (h7 : a7.IsWhole)

theorem outB_at (hc0 : ¬cond0_0 g) (hc1 : cond0_1 g) (i q : Fin 1024) :
    out0_B_5 c g a2 h2 a3 h3 a4 h4 a5 h5 a6 h6 a7 h7 hc0 hc1 x0 x1 x2 x3 x4 (ix2 i q) = dot x0 x1 i q := by
  frame_out
  pointwise [k0_pay4, dot]

theorem spun_of (i q : Fin 1024) (l : Fin 128) (k0 k1 k2 : Fin 1024) (hl : q.val % 128 = l.val) (e0 : k0.val = q.val)
    (e1 : k1.val = q.val / 128 * 128 + (q.val % 128 + 16) % 128) (e2 : k2.val = q.val / 128 * 128 + (q.val % 128 + 112) % 128) :
    (∑ d : Fin 2048, x0 (ix2 i d) * x1 (ix2 d k0)) * x2 (ix2 i l) + (∑ d : Fin 2048, x0 (ix2 i d) * x1 (ix2 d k1)) * x3 (ix2 i l)
      + (∑ d : Fin 2048, x0 (ix2 i d) * x1 (ix2 d k2)) * x4 (ix2 i l) = spun x0 x1 x2 x3 x4 i q := by
  obtain rfl : k0 = q := Fin.ext e0
  have f1 : k1 = ⟨k0.val / 128 * 128 + (k0.val % 128 + 16) % 128, by clear e1 e2 hl; omega⟩ := Fin.ext e1
  have f2 : k2 = ⟨k0.val / 128 * 128 + (k0.val % 128 + 112) % 128, by clear f1 e1 e2 hl; omega⟩ := Fin.ext e2
  have f : l = ⟨k0.val % 128, by clear f1 f2 e1 e2 hl; omega⟩ := Fin.ext hl.symm
  rw [f1, f2, f]
  rfl

theorem outA_at (hc0 : cond0_0 g) (hc1 : ¬cond0_1 g) (i q : Fin 1024) :
    out0_A_5 c g a2 h2 a3 h3 a4 h4 a5 h5 a6 h6 a7 h7 hc0 hc1 x0 x1 x2 x3 x4 (ix2 i q) = spun x0 x1 x2 x3 x4 i q := by
  frame_out
  canon_tiles x h
  all_goals
    obtain ⟨i', l, rfl⟩ : ∃ i' l, x = ix2 i' l := ⟨x 0, x 1, by funext i; fin_cases i <;> rfl⟩
    obtain rfl : i = i' := Fin.ext h0
    have hl : l.val < 128 := l.isLt
    pointwise [k0_pay1, k0_pay2, k0_pay3, k0_pay5, k0_pay6, k0_pay7, k0_pay8, k0_pay9, k0_pay10, k0_pay11, k0_pay12, k0_pay13, k0_pay14, k0_pay15, k0_pay16,
      k0_pay17, k0_pay18]
    refine spun_of x0 x1 x2 x3 x4 i q l _ _ _ ?_ ?_ ?_ ?_
    all_goals
      first
        | (have hq : q.val = _ + l.val := h1; (try dsimp only); omega)
        | (have hq : q.val = l.val := h1; (try dsimp only); omega)

variable (m : (ℓ : Loc nD τ sig) → Buf (Elt Ideal) ℓ)

/-- Every window's block index at a grid point. -/
theorem idx_val : ∀ t : Fin cfg0.N, win0_0.index t = ![t.val / 6, 0] ∧ win0_1.index t = ![0, t.val % 6] ∧ win0_2.index t = ![t.val / 6 % 2, 0]
    ∧ win0_3.index t = ![t.val / 6 % 2, 0] ∧ win0_4.index t = ![t.val / 6 % 2, 0] ∧ win0_5.index t = ![t.val / 6, t.val % 6] :=
  (by decide +kernel : ∀ t : Fin grid0.N, _)

open Cert.Reference8Ideal.Value (angle turned product assembled product_at assembled_turned assembled_plain)

section Tables

/-- The first table: the cosine of a turned lane's angle, one elsewhere. -/
def cosAt (t : Fin 2048) (l : Fin 128) : EReal :=
  if h : l.val < 16 then Ideal.cos (angle t ⟨l.val, h⟩) else if h' : l.val - 16 < 16 then Ideal.cos (angle t ⟨l.val - 16, h'⟩) else 1
/-- The second table: minus the sine, on the first sixteen lanes. -/
def lowAt (t : Fin 2048) (l : Fin 128) : EReal := if h : l.val < 16 then -Ideal.sin (angle t ⟨l.val, h⟩) else 0
/-- The third table: the sine, on the next sixteen lanes. -/
def highAt (t : Fin 2048) (l : Fin 128) : EReal :=
  if l.val < 16 then 0 else if h' : l.val - 16 < 16 then Ideal.sin (angle t ⟨l.val - 16, h'⟩) else 0

/-- The three tables' combination of a head's lanes is the rotation. -/
theorem combined (seg : Fin 128 → EReal) (t : Fin 2048) (l : Fin 128) :
    seg l * cosAt t l + seg ⟨(l.val + 16) % 128, by omega⟩ * lowAt t l + seg ⟨(l.val + 112) % 128, by omega⟩ * highAt t l = turned seg t l := by
  unfold cosAt lowAt highAt turned
  split_ifs with h0 h1
  · have e : (⟨(l.val + 16) % 128, by omega⟩ : Fin 128) = ⟨16 + l.val, by omega⟩ := Fin.ext (show (l.val + 16) % 128 = 16 + l.val by omega)
    rw [e, mul_zero, add_zero, mul_neg, sub_eq_add_neg]
  · have e : (⟨(l.val + 112) % 128, by omega⟩ : Fin 128) = ⟨l.val - 16, by omega⟩ := Fin.ext (show (l.val + 112) % 128 = l.val - 16 by omega)
    have e' : (⟨16 + (l.val - 16), by omega⟩ : Fin 128) = l := Fin.ext (show 16 + (l.val - 16) = l.val by omega)
    rw [e, e', mul_zero, add_zero, add_comm]
  · have e' : (⟨32 + (l.val - 16 - 16), by omega⟩ : Fin 128) = l := Fin.ext (show 32 + (l.val - 16 - 16) = l.val by omega)
    rw [e', mul_zero, mul_zero, add_zero, add_zero, mul_one]

variable (c : Dev nD) (t : Fin 2048) (l : Fin 128)

theorem V_cos : V m c main_v19 (ix2 t l) = cosAt t l := by
  unfold V
  after_reads_at
  after_reads_at
  pointwise [cosAt, angle]

theorem V_low : V m c main_v21 (ix2 t l) = lowAt t l := by
  unfold V
  after_reads_at
  after_reads_at
  pointwise [lowAt, angle]
  split_ifs <;> rfl

theorem V_high : V m c main_v22 (ix2 t l) = highAt t l := by
  unfold V
  after_reads_at
  after_reads_at
  pointwise [highAt, angle]
  split_ifs <;> rfl

end Tables

section Blocks

variable (c : Dev nD) (t : Fin cfg0.N)

theorem V_weights : V m c main_v0 = (truncf .bf16 (show FVec Ideal S2048x6144 .f32 from m ((c : Thread nD τ).loc main_arg1)) bitsLt_bf16_f32 : FVec Ideal S2048x6144 .bf16) := by
  entry_read
  rfl

theorem blk0_at (i : Fin 1024) (d : Fin 2048) : iblk m c 0 t (ix2 i d) = m ((c : Thread nD τ).loc main_arg0)
    (ix2 ⟨t.val / 6 * 1024 + i.val, by have : t.val < 96 := t.isLt; omega⟩ d) := by
  blk_point [iblk, V, idx_val t]

theorem blk1_at (d : Fin 2048) (q : Fin 1024) : iblk m c 1 t (ix2 d q) = m ((c : Thread nD τ).loc main_arg1)
    (ix2 d ⟨t.val % 6 * 1024 + q.val, by omega⟩) := by
  have h : iblk m c 1 t (ix2 d q) = V m c main_v0 (ix2 d ⟨t.val % 6 * 1024 + q.val, by omega⟩) := by blk_point [iblk, idx_val t]
  rw [h, V_weights]
  rfl

theorem blk2_at (i : Fin 1024) (l : Fin 128) : iblk m c 2 t (ix2 i l) = cosAt ⟨t.val / 6 % 2 * 1024 + i.val, by omega⟩ l := by
  rw [← V_cos m c]
  blk_point [iblk, idx_val t]

theorem blk3_at (i : Fin 1024) (l : Fin 128) : iblk m c 3 t (ix2 i l) = lowAt ⟨t.val / 6 % 2 * 1024 + i.val, by omega⟩ l := by
  rw [← V_low m c]
  blk_point [iblk, idx_val t]

theorem blk4_at (i : Fin 1024) (l : Fin 128) : iblk m c 4 t (ix2 i l) = highAt ⟨t.val / 6 % 2 * 1024 + i.val, by omega⟩ l := by
  rw [← V_high m c]
  blk_point [iblk, idx_val t]

/-- A block's product is the reference's at the token and the column. -/
theorem dot_blk (i k : Fin 1024) : dot (iblk m c 0 t) (iblk m c 1 t) i k
    = product (m ((c : Thread nD τ).loc main_arg0)) (m ((c : Thread nD τ).loc main_arg1))
      (ix3 ⟨(t.val / 6 * 1024 + i.val) / 2048, by have : t.val < 96 := t.isLt; omega⟩ ⟨(t.val / 6 * 1024 + i.val) % 2048, by omega⟩
        ⟨t.val % 6 * 1024 + k.val, by omega⟩) := by
  rw [product_at]
  refine Finset.sum_congr rfl fun d _ => ?_
  rw [blk0_at, blk1_at]
  have e : (⟨t.val / 6 * 1024 + i.val, by have : t.val < 96 := t.isLt; omega⟩ : Fin 16384)
      = ⟨(t.val / 6 * 1024 + i.val) / 2048 * 2048 + (t.val / 6 * 1024 + i.val) % 2048, by have : t.val < 96 := t.isLt; omega⟩ :=
    Fin.ext (by show t.val / 6 * 1024 + i.val = (t.val / 6 * 1024 + i.val) / 2048 * 2048 + (t.val / 6 * 1024 + i.val) % 2048; omega)
  rw [e]

end Blocks

theorem final (c : Dev nD) : (dats m 0 c).arrAt 5 cfg0.N
    = assembled (product (m ((c : Thread nD τ).loc main_arg0)) (m ((c : Thread nD τ).loc main_arg1))) := by
  refine (dats m 0 c).arrAt_eq_of_covers 5 _ (by decide +kernel) fun t _ y => ?_
  blk_simp
  rw [after0_5]
  obtain ⟨i, q, rfl⟩ : ∃ i q, y = ix2 i q := ⟨y 0, y 1, by funext i; fin_cases i <;> rfl⟩
  have ht : t.val < 96 := t.isLt
  have he : ((cfg0.win 5).blk t).view.emb (ix2 i q) = ix2 (⟨t.val / 6 * 1024 + i.val, by omega⟩ : Fin 16384)
      (⟨t.val % 6 * 1024 + q.val, by omega⟩ : Fin 6144) := by
    blk_ext [idx_val t]
  refine Eq.trans ?_ (congrArg (assembled _) he).symm
  by_cases h : t.val % 6 ≤ 3
  · rw [outsAt0_A m c t h (by omega), assembled_turned _ _ _ (show t.val % 6 * 1024 + q.val < 4096 by omega)]
    refine (outA_at _ _ _ _ _ _ _ _ _ _ _ _ _ _ _ _ _ _ _ _ _ i q).trans ?_
    have e : (⟨t.val / 6 % 2 * 1024 + i.val, by omega⟩ : Fin 2048) = ⟨(t.val / 6 * 1024 + i.val) % 2048, by omega⟩ :=
      Fin.ext (show t.val / 6 % 2 * 1024 + i.val = (t.val / 6 * 1024 + i.val) % 2048 by omega)
    have el : (⟨(t.val % 6 * 1024 + q.val) % 128, by omega⟩ : Fin 128) = ⟨q.val % 128, by omega⟩ :=
      Fin.ext (show (t.val % 6 * 1024 + q.val) % 128 = q.val % 128 by omega)
    rw [← combined, el]
    unfold spun
    rw [blk2_at, blk3_at, blk4_at, dot_blk, dot_blk, dot_blk, e]
    refine congrArg₂ (· + ·) (congrArg₂ (· + ·)
      (congrArg₂ (· * ·) (congrArg _ (congrArg (ix3 _ _) (Fin.ext ?_))) rfl)
      (congrArg₂ (· * ·) (congrArg _ (congrArg (ix3 _ _) (Fin.ext ?_))) rfl))
      (congrArg₂ (· * ·) (congrArg _ (congrArg (ix3 _ _) (Fin.ext ?_))) rfl)
    all_goals clear e el he; dsimp only; omega
  · rw [outsAt0_B m c t h (by omega), assembled_plain _ _ _ (show 4096 ≤ t.val % 6 * 1024 + q.val by omega)]
    refine (outB_at _ _ _ _ _ _ _ _ _ _ _ _ _ _ _ _ _ _ _ _ _ i q).trans ?_
    exact dot_blk m c t i q

end Cert.Kernel8Ideal.Value

end
-- ==== Proof.lean ====
/- Hand-written. The proof of `Cert.Claim` (proofs.«01_k».proof.Defs): the frames of the programs, the named
   constant, and the equality of the kernels' and the references' results. -/
module

public import proofs.«01_k».proof.Defs
public import proofs.«01_k».proof.Proof.Gen.KernelIdeal.Value
public import proofs.«01_k».proof.Proof.Gen.ReferenceIdeal.Run
public import proofs.«01_k».proof.Proof.Gen.Kernel.Frame
public import proofs.«01_k».proof.Proof.Pre
public import proofs.«01_k».proof.Proof.UpValue
public import proofs.«01_k».proof.Proof.Gen.Reference2Ideal.Run
public import proofs.«01_k».proof.Proof.DownValue
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Kernel9Ideal.Frame
public import proofs.«01_k».proof.Proof.Gen.Kernel9.Frame
public import proofs.«01_k».proof.Proof.Gen.Reference9Ideal.Run
public import proofs.«01_k».proof.Proof.Gen.Kernel10Ideal.Value
public import proofs.«01_k».proof.Proof.Gen.Kernel10.Frame
public import proofs.«01_k».proof.Proof.Gen.Reference10Ideal.Run
public import proofs.«01_k».proof.Proof.Modulation
public import proofs.«01_k».proof.Proof.ProjIn
public import proofs.«01_k».proof.Proof.ProjOut
public import proofs.«01_k».proof.Proof.Norm
public import proofs.«01_k».proof.Proof.RouteNorm
public import proofs.«01_k».proof.Proof.Rotary
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs and leaves its arguments. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem algebraic : Cert.algebraic_KernelIdeal_ReferenceIdeal_pre_finite_queries_and_keys
    (hPre_finite_queries_and_keys := Cert.Pre_finite_queries_and_keys.facts) := by
  intro m g m' g' hpre hagree
  refine ⟨fun c => Cert.ReferenceIdeal.Value.res_out0 m' c, ?_, ?_⟩
  · refine (θ_run Cert.KernelIdeal.defs _ _).mono (fun r h c => ⟨(h c).1.trans ?_, (h c).2⟩)
      (Cert.KernelIdeal.Value.run_blocks (F := Ideal) m g)
    exact Cert.KernelIdeal.Value.final m m' c (hagree c).1 (hagree c).2.1 (hagree c).2.2
      (@Cert.Pre_finite_queries_and_keys.real_of_pre Cert.Pre_finite_queries_and_keys.facts _ _ _ (hpre c))
  · exact Cert.ReferenceIdeal.Value.run (F := Ideal) m' g'

/-- The up-projection's tables are in range. -/
theorem good_up {F : FTy → Type} [FloatOps F] (m : (ℓ : Loc Cert.Kernel2.nD Cert.Kernel2.τ Cert.Kernel2.sig) → Buf (Elt F) ℓ)
    (h : @Cert.Pre_tiles_in_range.fn Cert.Tiles.up_facts F _ (m ((Dev.tc (0 : Dev Cert.Kernel2.nD) : Thread Cert.Kernel2.nD Cert.Kernel2.τ).loc Cert.Kernel2.main_arg0)) (m ((Dev.tc (0 : Dev Cert.Kernel2.nD) : Thread Cert.Kernel2.nD Cert.Kernel2.τ).loc Cert.Kernel2.main_arg1)) (m ((Dev.tc (0 : Dev Cert.Kernel2.nD) : Thread Cert.Kernel2.nD Cert.Kernel2.τ).loc Cert.Kernel2.main_arg2)) (m ((Dev.tc (0 : Dev Cert.Kernel2.nD) : Thread Cert.Kernel2.nD Cert.Kernel2.τ).loc Cert.Kernel2.main_arg3)) (m ((Dev.tc (0 : Dev Cert.Kernel2.nD) : Thread Cert.Kernel2.nD Cert.Kernel2.τ).loc Cert.Kernel2.main_arg4)) = fun _ => 1#1) :
    Cert.Tiles.Good (Cert.Kernel2.Tiles.tables m 0 0) (Cert.Kernel2.Tiles.tables m 0 1) :=
  haveI := Cert.Tiles.up_facts
  Cert.Tiles.good_of_up (F := F) _ _ _ _ _ h

theorem frame_up : Cert.quiescent_Kernel2 (hPre_tiles_in_range := Cert.Tiles.up_facts) := fun m g h =>
  (θ_run Cert.Kernel2.defs _ _).mono (fun _ q => ⟨fun c => (q.1 c).2, q.2⟩)
    (Cert.Kernel2.Tiles.run_of_good (F := Bits) m g (good_up m (h 0)))

theorem frame_up_ideal : Cert.quiescent_Kernel2Ideal (hPre_tiles_in_range := Cert.Tiles.up_facts) := fun m g h =>
  (θ_run Cert.Kernel2Ideal.defs _ _).mono (fun _ q => ⟨fun c => (q.1 c).2, q.2⟩)
    (Cert.Kernel2Ideal.Tiles.run m g (good_up (F := Ideal) m (h 0)))

theorem frame_up_reference : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

theorem algebraic_up : Cert.algebraic_Kernel2Ideal_Reference2Ideal (hPre_tiles_in_range := Cert.Tiles.up_facts) := by
  intro m g m' g' hpre hagree
  refine ⟨fun c => Cert.Reference2Ideal.Value.hidden (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)), ?_, ?_⟩
  · exact (θ_run Cert.Kernel2Ideal.defs _ _).mono (fun r h c => h.1 c)
      (Cert.Kernel2Ideal.Tiles.run m g (good_up (F := Ideal) m (hpre 0)))
  · refine (θ_run Cert.Reference2Ideal.defs _ _).mono (fun r h c => ⟨(h c).1.trans ?_, (h c).2⟩)
      (Cert.Reference2Ideal.Value.run (F := Ideal) m' g')
    beta_reduce
    obtain ⟨e0, e1, e2, e3, e4⟩ := hagree c
    rw [← e0, ← e1, ← e2, ← e3, ← e4]
    rfl

/-- The down-projection's tables are in range. -/
theorem good_down {F : FTy → Type} [FloatOps F] (m : (ℓ : Loc Cert.Kernel3.nD Cert.Kernel3.τ Cert.Kernel3.sig) → Buf (Elt F) ℓ)
    (h : @Cert.Pre_down_tiles_in_range.fn Cert.Tiles.down_facts F _ (m ((Dev.tc (0 : Dev Cert.Kernel3.nD) : Thread Cert.Kernel3.nD Cert.Kernel3.τ).loc Cert.Kernel3.main_arg0)) (m ((Dev.tc (0 : Dev Cert.Kernel3.nD) : Thread Cert.Kernel3.nD Cert.Kernel3.τ).loc Cert.Kernel3.main_arg1)) (m ((Dev.tc (0 : Dev Cert.Kernel3.nD) : Thread Cert.Kernel3.nD Cert.Kernel3.τ).loc Cert.Kernel3.main_arg2)) (m ((Dev.tc (0 : Dev Cert.Kernel3.nD) : Thread Cert.Kernel3.nD Cert.Kernel3.τ).loc Cert.Kernel3.main_arg3)) = fun _ => 1#1) :
    Cert.Tiles.Good (Cert.Kernel3.Tiles.tables m 0 0) (Cert.Kernel3.Tiles.tables m 0 1) :=
  haveI := Cert.Tiles.down_facts
  Cert.Tiles.good_of_down (F := F) _ _ _ _ h

theorem frame_down : Cert.quiescent_Kernel3 (hPre_down_tiles_in_range := Cert.Tiles.down_facts) := fun m g h =>
  (θ_run Cert.Kernel3.defs _ _).mono (fun _ q => ⟨fun c => (q.1 c).2, q.2⟩)
    (Cert.Kernel3.Tiles.run_of_good (F := Bits) m g (good_down m (h 0)))

theorem frame_down_ideal : Cert.quiescent_Kernel3Ideal (hPre_down_tiles_in_range := Cert.Tiles.down_facts) := fun m g h =>
  (θ_run Cert.Kernel3Ideal.defs _ _).mono (fun _ q => ⟨fun c => (q.1 c).2, q.2⟩)
    (Cert.Kernel3Ideal.Tiles.run m g (good_down (F := Ideal) m (h 0)))

theorem frame_down_reference : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)

theorem algebraic_down : Cert.algebraic_Kernel3Ideal_Reference3Ideal (hPre_down_tiles_in_range := Cert.Tiles.down_facts) := by
  intro m g m' g' hpre hagree
  refine ⟨fun c => Cert.Reference3Ideal.Value.lowered (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · exact (θ_run Cert.Kernel3Ideal.defs _ _).mono (fun r h c => h.1 c)
      (Cert.Kernel3Ideal.Tiles.run m g (good_down (F := Ideal) m (hpre 0)))
  · refine (θ_run Cert.Reference3Ideal.defs _ _).mono (fun r h c => ⟨(h c).1.trans ?_, (h c).2⟩)
      (Cert.Reference3Ideal.Value.run (F := Ideal) m' g')
    beta_reduce
    obtain ⟨e0, e1, e2, e3⟩ := hagree c
    rw [← e0, ← e1, ← e2, ← e3]
    rfl

/-- Of the even layer's projection in: the reference runs and leaves its arguments. -/
theorem frame_in_reference : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

theorem algebraic_in : Cert.algebraic_Kernel4Ideal_Reference4Ideal := by
  intro m g m' g' _ hagree
  refine ⟨fun c => Cert.Reference4Ideal.Value.projected (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Value.final m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    beta_reduce
    obtain ⟨e0, e1⟩ := hagree c
    rw [← e0, ← e1]
    rfl

/-- Of the even layer's projection out: the reference runs and leaves its arguments. -/
theorem frame_out_even_reference : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

theorem algebraic_out_even : Cert.algebraic_Kernel5Ideal_Reference5Ideal := by
  intro m g m' g' _ hagree
  refine ⟨fun c => Cert.Reference5Ideal.Value.added (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4)), ?_, ?_⟩
  · exact (θ_run Cert.Kernel5Ideal.defs _ _).mono (fun r h c => ⟨(h c).1.trans (Cert.Kernel5Ideal.Value.final m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    beta_reduce
    obtain ⟨e0, e1, e2, e3, e4⟩ := hagree c
    rw [← e0, ← e1, ← e2, ← e3, ← e4]
    rfl

/-- Of the odd layer's projection out: the reference runs and leaves its arguments. -/
theorem frame_out_odd_reference : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)

theorem algebraic_out_odd : Cert.algebraic_Kernel6Ideal_Reference6Ideal := by
  intro m g m' g' _ hagree
  refine ⟨fun c => Cert.Reference6Ideal.Value.added (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1))
    (m ((c.tc : Thread Cert.Kernel6Ideal.nD Cert.Kernel6Ideal.τ).loc Cert.Kernel6Ideal.main_arg2))
    (m ((c.tc : Thread Cert.Kernel6Ideal.nD Cert.Kernel6Ideal.τ).loc Cert.Kernel6Ideal.main_arg3)), ?_, ?_⟩
  · exact (θ_run Cert.Kernel6Ideal.defs _ _).mono (fun r h c => ⟨(h c).1.trans (Cert.Kernel6Ideal.Value.final m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    beta_reduce
    obtain ⟨e0, e1, e2, e3⟩ := hagree c
    rw [← e0, ← e1, ← e2, ← e3]
    rfl

/-- Of the modulated norm: the reference runs and leaves its arguments. -/
theorem frame_norm_reference : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)

theorem algebraic_norm : Cert.algebraic_Kernel7Ideal_Reference7Ideal := by
  intro m g m' g' _ hagree
  refine ⟨fun c => Cert.Reference7Ideal.Value.normed (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1))
    (m ((c.tc : Thread Cert.Kernel7Ideal.nD Cert.Kernel7Ideal.τ).loc Cert.Kernel7Ideal.main_arg2)), ?_, ?_⟩
  · exact (θ_run Cert.Kernel7Ideal.defs _ _).mono (fun r h c => ⟨(h c).1.trans (Cert.Kernel7Ideal.Value.final m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    beta_reduce
    obtain ⟨e0, e1, e2⟩ := hagree c
    rw [← e0, ← e1, ← e2]
    rfl

/-- Of the odd layer's projection in, with the rotation: the reference runs and leaves its arguments. -/
theorem frame_rotary_reference : Cert.quiescent_Reference8Ideal := fun m g _ =>
  (θ_run Cert.Reference8Ideal.defs _ _).mono
    (fun r h => ⟨fun c => (h c).2, Idealize.ShloMosaic.sem_eq_zero_of_no_sems (by decide) r.2⟩)
    (Cert.Reference8Ideal.Value.run (F := Ideal) m g)

theorem algebraic_rotary : Cert.algebraic_Kernel8Ideal_Reference8Ideal := by
  intro m g m' g' _ hagree
  refine ⟨fun c => Cert.Reference8Ideal.Value.assembled (Cert.Reference8Ideal.Value.product (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1))), ?_, ?_⟩
  · exact (θ_run Cert.Kernel8Ideal.defs _ _).mono (fun r h c => ⟨(h c).1.trans (Cert.Kernel8Ideal.Value.final m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    beta_reduce
    obtain ⟨e0, e1⟩ := hagree c
    rw [← e0, ← e1]
    rfl

/-- Of the modulation: the reference runs and leaves its arguments. -/
theorem frame_modulation_reference : Cert.quiescent_Reference9Ideal := fun m g _ =>
  (θ_run Cert.Reference9Ideal.defs _ _).mono
    (fun r h => ⟨fun c => (h c).2, Idealize.ShloMosaic.sem_eq_zero_of_no_sems (by decide) r.2⟩)
    (Cert.Reference9Ideal.Value.run (F := Ideal) m g)

theorem algebraic_modulation : Cert.algebraic_Kernel9Ideal_Reference9Ideal := by
  intro m g m' g' _ hagree
  refine ⟨fun c => Cert.Reference9Ideal.Value.modulation (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2)), ?_, ?_⟩
  · exact Cert.Kernel9Ideal.Value.run m g
  · refine (θ_run Cert.Reference9Ideal.defs _ _).mono (fun r h c => ⟨(h c).1.trans ?_, (h c).2⟩)
      (Cert.Reference9Ideal.Value.run (F := Ideal) m' g')
    beta_reduce
    obtain ⟨e0, e1, e2⟩ := hagree c
    rw [← e0, ← e1, ← e2]
    rfl

/-- Of the norm before the experts: the reference runs and leaves its arguments. -/
theorem frame_route_reference : Cert.quiescent_Reference10Ideal := fun m g _ =>
  (θ_run Cert.Reference10Ideal.defs _ _).mono
    (fun r h => ⟨fun c => (h c).2, Idealize.ShloMosaic.sem_eq_zero_of_no_sems (by decide) r.2⟩)
    (Cert.Reference10Ideal.Value.run (F := Ideal) m g)

theorem algebraic_route : Cert.algebraic_Kernel10Ideal_Reference10Ideal := by
  intro m g m' g' _ hagree
  refine ⟨fun c => Cert.Reference10Ideal.Value.normed (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2)), ?_, ?_⟩
  · exact (θ_run Cert.Kernel10Ideal.defs _ _).mono
      (fun r h c => ⟨(h c).1.trans (Cert.Kernel10Ideal.Value.final m c), (h c).2.2.2.2.2⟩)
      (Cert.Kernel10Ideal.Value.run_blocks (F := Ideal) m g)
  · refine (θ_run Cert.Reference10Ideal.defs _ _).mono (fun r h c => ⟨(h c).1.trans ?_, (h c).2⟩)
      (Cert.Reference10Ideal.Value.run (F := Ideal) m' g')
    beta_reduce
    obtain ⟨e0, e1, e2, -, -⟩ := hagree c
    rw [← e0, ← e1, ← e2]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite_queries_and_keys.facts, Cert.Tiles.up_facts, Cert.Tiles.down_facts,
  fun m g _ => Cert.Kernel.Gen.frame m g,
  fun m g _ => Cert.KernelIdeal.Gen.frame m g,
  fun m g _ => Cert.KernelIdeal.Gen.frame m g,
  frame_reference,
  fun m g _ => frame_reference m g trivial,
  frame_up, frame_up_ideal, frame_up_reference, fun m g _ => frame_up_reference m g trivial,
  frame_down, frame_down_ideal, frame_down_reference, fun m g _ => frame_down_reference m g trivial,
  fun m g _ => Cert.Kernel4.Gen.frame m g, fun m g _ => Cert.Kernel4Ideal.Gen.frame m g, frame_in_reference,
  fun m g _ => Cert.Kernel5.Gen.frame m g, fun m g _ => Cert.Kernel5Ideal.Gen.frame m g, frame_out_even_reference,
  fun m g _ => Cert.Kernel6.Gen.frame m g, fun m g _ => Cert.Kernel6Ideal.Gen.frame m g, frame_out_odd_reference,
  fun m g _ => Cert.Kernel7.Gen.frame m g, fun m g _ => Cert.Kernel7Ideal.Gen.frame m g, frame_norm_reference,
  fun m g _ => Cert.Kernel8.Gen.frame m g, fun m g _ => Cert.Kernel8Ideal.Gen.frame m g, frame_rotary_reference,
  fun m g _ => Cert.Kernel9.Gen.frame m g, fun m g _ => Cert.Kernel9Ideal.Gen.frame m g, frame_modulation_reference,
  fun m g _ => Cert.Kernel10.Gen.frame m g, fun m g _ => Cert.Kernel10Ideal.Gen.frame m g, frame_route_reference,
  IdealRules.named_const.statement Cert.KernelIdeal.κ "scale_log2e" .f32 0x3E0293EE#32
    (((Real.sqrt 128)⁻¹ * (Real.log 2)⁻¹ : ℝ) : EReal) rfl,
  algebraic, trivial, algebraic_up, trivial, algebraic_down,
  trivial, algebraic_in, trivial, algebraic_out_even, trivial, algebraic_out_odd, trivial, algebraic_norm, trivial, algebraic_rotary,
  trivial, algebraic_modulation, trivial, algebraic_route⟩

end Cert.Proof

end
